-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v44)) (v1 : (c : Dev Cert.KernelIdeal.nD) → Buf (Elt Ideal) ((c.tc : Thread Cert.KernelIdeal.nD Cert.KernelIdeal.τ).loc Cert.KernelIdeal.main_v45)) (v2 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_v45) = v1 c
          ∧ r.2.mem ((c.tc : Thread Cert.KernelIdeal.nD Cert.KernelIdeal.τ).loc Cert.KernelIdeal.main_v46) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_v97) = v1 c
          ∧ r.2.mem ((c.tc : Thread Cert.ReferenceIdeal.nD Cert.ReferenceIdeal.τ).loc Cert.ReferenceIdeal.main_v98) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernelIdeal : Cert.KernelIdeal.Facts) (hReferenceIdeal : Cert.ReferenceIdeal.Facts),
    quiescent_KernelIdeal (hKernelIdeal := hKernelIdeal)
    ∧ quiescent_ReferenceIdeal (hReferenceIdeal := hReferenceIdeal)
    ∧ algebraic_KernelIdeal_ReferenceIdeal (hKernelIdeal := hKernelIdeal) (hReferenceIdeal := hReferenceIdeal)
-- ==== KernelIdeal.lean ====
abbrev S16x20000x85 : Shape := ⟨3, ![16, 20000, 85]⟩
abbrev S20000x2 : Shape := ⟨2, ![20000, 2]⟩
abbrev S16x2 : Shape := ⟨2, ![16, 2]⟩
abbrev S16x10x2000 : Shape := ⟨3, ![16, 10, 2000]⟩
abbrev S16x10x2000x4 : Shape := ⟨4, ![16, 10, 2000, 4]⟩
abbrev S1x2000x85 : Shape := ⟨3, ![1, 2000, 85]⟩
abbrev S2000x2 : Shape := ⟨2, ![2000, 2]⟩
abbrev S1x10x2000 : Shape := ⟨3, ![1, 10, 2000]⟩
abbrev S1x10x2000x4 : Shape := ⟨4, ![1, 10, 2000, 4]⟩
abbrev S2000x85 : Shape := ⟨2, ![2000, 85]⟩
abbrev S2000x1 : Shape := ⟨2, ![2000, 1]⟩
abbrev S2000x80 : Shape := ⟨2, ![2000, 80]⟩
abbrev S2000 : Shape := ⟨1, ![2000]⟩
abbrev S1x1x2000 : Shape := ⟨3, ![1, 1, 2000]⟩
abbrev S2000x4 : Shape := ⟨2, ![2000, 4]⟩
abbrev S1x1x2000x4 : Shape := ⟨4, ![1, 1, 2000, 4]⟩
abbrev S16x20000 : Shape := ⟨2, ![16, 20000]⟩
abbrev S16x20000x4 : Shape := ⟨3, ![16, 20000, 4]⟩
abbrev S16x1000 : Shape := ⟨2, ![16, 1000]⟩
abbrev S16x1000x1 : Shape := ⟨3, ![16, 1000, 1]⟩
abbrev S_ : Shape := ⟨0, ![]⟩
abbrev S1 : Shape := ⟨1, ![1]⟩
abbrev S1x1x1 : Shape := ⟨3, ![1, 1, 1]⟩
abbrev S16x1000x85 : Shape := ⟨3, ![16, 1000, 85]⟩
abbrev S16x1000x4 : Shape := ⟨3, ![16, 1000, 4]⟩
abbrev S16x1000x80 : Shape := ⟨3, ![16, 1000, 80]⟩
abbrev S16x80000 : Shape := ⟨2, ![16, 80000]⟩
abbrev S16x1024x4 : Shape := ⟨3, ![16, 1024, 4]⟩
abbrev S16x4x1024 : Shape := ⟨3, ![16, 4, 1024]⟩
abbrev S16x1024 : Shape := ⟨2, ![16, 1024]⟩
abbrev S16x1x1024 : Shape := ⟨3, ![16, 1, 1024]⟩
abbrev S1x1024x4 : Shape := ⟨3, ![1, 1024, 4]⟩
abbrev S1x4x1024 : Shape := ⟨3, ![1, 4, 1024]⟩
abbrev S1x1x1024 : Shape := ⟨3, ![1, 1, 1024]⟩
abbrev S1024x1024 : Shape := ⟨2, ![1024, 1024]⟩
abbrev S1024x4 : Shape := ⟨2, ![1024, 4]⟩
abbrev S4x1024 : Shape := ⟨2, ![4, 1024]⟩
abbrev S1024x1 : Shape := ⟨2, ![1024, 1]⟩
abbrev S1x1024 : Shape := ⟨2, ![1, 1024]⟩
abbrev S16x300 : Shape := ⟨2, ![16, 300]⟩
abbrev S16x300x1 : Shape := ⟨3, ![16, 300, 1]⟩
abbrev S16x300x4 : Shape := ⟨3, ![16, 300, 4]⟩

abbrev nBuf : Space → Nat
  | .hbm => 238
  | .vmem => 21
  | .smem => 0
  | _ => 0

abbrev hbmTy0_0 (i : Nat) : BufTy := match i % 128 with
  | 0 => ⟨S16x20000x85, .f32⟩
  | 1 => ⟨S20000x2, .f32⟩
  | 2 => ⟨S20000x2, .f32⟩
  | 3 => ⟨S20000x2, .f32⟩
  | 4 => ⟨S16x2, .i32⟩
  | 5 => ⟨S16x10x2000, .f32⟩
  | 6 => ⟨S16x10x2000x4, .f32⟩
  | 7 => ⟨S16x20000, .f32⟩
  | 8 => ⟨S16x20000x4, .f32⟩
  | 9 => ⟨S16x1000, .f32⟩
  | 10 => ⟨S16x1000, .i32⟩
  | 11 => ⟨S16x1000, .i32⟩
  | 12 => ⟨S16x1000x1, .i32⟩
  | 13 => ⟨S_, .i32⟩
  | 14 => ⟨S16x1000x1, .i32⟩
  | 15 => ⟨S16x1000x1, .i1⟩
  | 16 => ⟨S_, .i32⟩
  | 17 => ⟨S16x1000x1, .i32⟩
  | 18 => ⟨S16x1000x1, .i32⟩
  | 19 => ⟨S16x1000x1, .i32⟩
  | 20 => ⟨S1, .i32⟩
  | 21 => ⟨S_, .i32⟩
  | 22 => ⟨S16x1000x1, .i32⟩
  | 23 => ⟨S16x1000x1, .i1⟩
  | 24 => ⟨S1x1x1, .i32⟩
  | 25 => ⟨S16x1000x1, .i32⟩
  | 26 => ⟨S16x1000x1, .i1⟩
  | 27 => ⟨S16x1000x1, .i1⟩
  | 28 => ⟨S_, .i1⟩
  | 29 => ⟨S16x1000, .i1⟩
  | 30 => ⟨S16x1000x85, .f32⟩
  | 31 => ⟨S16x1000x85, .i1⟩
  | 32 => ⟨S_, .f32⟩
  | 33 => ⟨S16x1000x85, .f32⟩
  | 34 => ⟨S16x1000x85, .f32⟩
  | 35 => ⟨S16x1000x1, .i32⟩
  | 36 => ⟨S_, .i32⟩
  | 37 => ⟨S16x1000x1, .i32⟩
  | 38 => ⟨S16x1000x1, .i1⟩
  | 39 => ⟨S_, .i32⟩
  | 40 => ⟨S16x1000x1, .i32⟩
  | 41 => ⟨S16x1000x1, .i32⟩
  | 42 => ⟨S16x1000x1, .i32⟩
  | 43 => ⟨S1, .i32⟩
  | 44 => ⟨S_, .i32⟩
  | 45 => ⟨S16x1000x1, .i32⟩
  | 46 => ⟨S16x1000x1, .i1⟩
  | 47 => ⟨S1x1x1, .i32⟩
  | 48 => ⟨S16x1000x1, .i32⟩
  | 49 => ⟨S16x1000x1, .i1⟩
  | 50 => ⟨S16x1000x1, .i1⟩
  | 51 => ⟨S_, .i1⟩
  | 52 => ⟨S16x1000, .i1⟩
  | 53 => ⟨S16x1000x4, .f32⟩
  | 54 => ⟨S16x1000x4, .i1⟩
  | 55 => ⟨S_, .f32⟩
  | 56 => ⟨S16x1000x4, .f32⟩
  | 57 => ⟨S16x1000x4, .f32⟩
  | 58 => ⟨S16x1000x85, .f32⟩
  | 59 => ⟨S16x1000x85, .f32⟩
  | 60 => ⟨S_, .f32⟩
  | 61 => ⟨S16x1000x85, .f32⟩
  | 62 => ⟨S16x1000x85, .f32⟩
  | 63 => ⟨S_, .f32⟩
  | 64 => ⟨S16x1000x85, .f32⟩
  | 65 => ⟨S16x1000x85, .f32⟩
  | 66 => ⟨S16x1000x80, .f32⟩
  | 67 => ⟨S16x1000x1, .f32⟩
  | 68 => ⟨S16x1000x80, .f32⟩
  | 69 => ⟨S16x1000x80, .f32⟩
  | 70 => ⟨S16x80000, .f32⟩
  | 71 => ⟨S16x1000, .f32⟩
  | 72 => ⟨S16x1000, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S16x1000, .i32⟩
  | 80 => ⟨S16x1000, .i32⟩
  | 81 => ⟨S_, .i32⟩
  | 82 => ⟨S16x1000, .i32⟩
  | 83 => ⟨S16x1000, .i1⟩
  | 84 => ⟨S_, .i32⟩
  | 85 => ⟨S16x1000, .i32⟩
  | 86 => ⟨S16x1000, .i1⟩
  | 87 => ⟨S_, .i32⟩
  | 88 => ⟨S_, .i1⟩
  | 89 => ⟨S16x1000, .i1⟩
  | 90 => ⟨S16x1000, .i1⟩
  | 91 => ⟨S16x1000, .i1⟩
  | 92 => ⟨S16x1000, .i32⟩
  | 93 => ⟨S16x1000, .i32⟩
  | 94 => ⟨S16x1000, .i32⟩
  | 95 => ⟨S_, .i32⟩
  | 96 => ⟨S_, .i32⟩
  | 97 => ⟨S16x1000, .i32⟩
  | 98 => ⟨S16x1000, .i32⟩
  | 99 => ⟨S16x1000, .i32⟩
  | 100 => ⟨S_, .i32⟩
  | 101 => ⟨S16x1000, .i32⟩
  | 102 => ⟨S16x1000, .i1⟩
  | 103 => ⟨S16x1000, .i32⟩
  | 104 => ⟨S16x1000, .i32⟩
  | 105 => ⟨S_, .i32⟩
  | 106 => ⟨S16x1000, .i32⟩
  | 107 => ⟨S16x1000, .i1⟩
  | 108 => ⟨S16x1000, .i1⟩
  | 109 => ⟨S_, .i32⟩
  | 110 => ⟨S16x1000, .i32⟩
  | 111 => ⟨S16x1000, .i32⟩
  | 112 => ⟨S16x1000, .i32⟩
  | 113 => ⟨S16x1000x1, .i32⟩
  | 114 => ⟨S_, .i32⟩
  | 115 => ⟨S16x1000x1, .i32⟩
  | 116 => ⟨S16x1000x1, .i1⟩
  | 117 => ⟨S_, .i32⟩
  | 118 => ⟨S16x1000x1, .i32⟩
  | 119 => ⟨S16x1000x1, .i32⟩
  | 120 => ⟨S16x1000x1, .i32⟩
  | 121 => ⟨S1, .i32⟩
  | 122 => ⟨S_, .i32⟩
  | 123 => ⟨S16x1000x1, .i32⟩
  | 124 => ⟨S16x1000x1, .i1⟩
  | 125 => ⟨S1x1x1, .i32⟩
  | 126 => ⟨S16x1000x1, .i32⟩
  | 127 => ⟨S16x1000x1, .i1⟩
  | _ => ⟨S16x20000x85, .f32⟩

abbrev hbmTy0_1 (i : Nat) : BufTy := match i % 128 with
  | 0 => ⟨S16x1000x1, .i1⟩
  | 1 => ⟨S_, .i1⟩
  | 2 => ⟨S16x1000, .i1⟩
  | 3 => ⟨S16x1000x4, .f32⟩
  | 4 => ⟨S16x1000x4, .i1⟩
  | 5 => ⟨S_, .f32⟩
  | 6 => ⟨S16x1000x4, .f32⟩
  | 7 => ⟨S16x1000x4, .f32⟩
  | 8 => ⟨S_, .f32⟩
  | 9 => ⟨S16x1000, .f32⟩
  | 10 => ⟨S16x1000, .i1⟩
  | 11 => ⟨S16x1000, .f32⟩
  | 12 => ⟨S16x1000x1, .f32⟩
  | 13 => ⟨S_, .f32⟩
  | 14 => ⟨S16x1000x1, .f32⟩
  | 15 => ⟨S16x1000x1, .f32⟩
  | 16 => ⟨S16x1000x4, .f32⟩
  | 17 => ⟨S16x1000x4, .f32⟩
  | 18 => ⟨S_, .i32⟩
  | 19 => ⟨S_, .f32⟩
  | 20 => ⟨S16x1024x4, .f32⟩
  | 21 => ⟨S16x4x1024, .f32⟩
  | 22 => ⟨S_, .i32⟩
  | 23 => ⟨S_, .i32⟩
  | 24 => ⟨S_, .i32⟩
  | 25 => ⟨S_, .i1⟩
  | 26 => ⟨S_, .i1⟩
  | 27 => ⟨S16x1024, .i1⟩
  | 28 => ⟨S16x1024, .f32⟩
  | 29 => ⟨S16x1x1024, .f32⟩
  | 30 => ⟨S16x1x1024, .f32⟩
  | 31 => ⟨S16x1024, .f32⟩
  | 32 => ⟨S16x1000, .f32⟩
  | 33 => ⟨S_, .f32⟩
  | 34 => ⟨S16x1000, .f32⟩
  | 35 => ⟨S16x1000, .i1⟩
  | 36 => ⟨S16x1000, .i1⟩
  | 37 => ⟨S_, .f32⟩
  | 38 => ⟨S_, .f32⟩
  | 39 => ⟨S16x1000, .f32⟩
  | 40 => ⟨S16x1000, .f32⟩
  | 41 => ⟨S16x300, .f32⟩
  | 42 => ⟨S16x300, .i32⟩
  | 43 => ⟨S16x300x1, .i32⟩
  | 44 => ⟨S_, .i32⟩
  | 45 => ⟨S16x300x1, .i32⟩
  | 46 => ⟨S16x300x1, .i1⟩
  | 47 => ⟨S_, .i32⟩
  | 48 => ⟨S16x300x1, .i32⟩
  | 49 => ⟨S16x300x1, .i32⟩
  | 50 => ⟨S16x300x1, .i32⟩
  | 51 => ⟨S1, .i32⟩
  | 52 => ⟨S_, .i32⟩
  | 53 => ⟨S16x300x1, .i32⟩
  | 54 => ⟨S16x300x1, .i1⟩
  | 55 => ⟨S1x1x1, .i32⟩
  | 56 => ⟨S16x300x1, .i32⟩
  | 57 => ⟨S16x300x1, .i1⟩
  | 58 => ⟨S16x300x1, .i1⟩
  | 59 => ⟨S_, .i1⟩
  | 60 => ⟨S16x300, .i1⟩
  | 61 => ⟨S16x300x4, .f32⟩
  | 62 => ⟨S16x300x4, .i1⟩
  | 63 => ⟨S_, .f32⟩
  | 64 => ⟨S16x300x4, .f32⟩
  | 65 => ⟨S16x300x4, .f32⟩
  | 66 => ⟨S_, .i32⟩
  | 67 => ⟨S16x300, .i32⟩
  | 68 => ⟨S16x300, .i1⟩
  | 69 => ⟨S_, .i32⟩
  | 70 => ⟨S16x300, .i32⟩
  | 71 => ⟨S16x300, .i32⟩
  | 72 => ⟨S16x300, .i32⟩
  | 73 => ⟨S16x300x1, .i32⟩
  | 74 => ⟨S1, .i32⟩
  | 75 => ⟨S_, .i32⟩
  | 76 => ⟨S16x300x1, .i32⟩
  | 77 => ⟨S16x300x1, .i1⟩
  | 78 => ⟨S1x1x1, .i32⟩
  | 79 => ⟨S16x300x1, .i32⟩
  | 80 => ⟨S16x300x1, .i1⟩
  | 81 => ⟨S16x300x1, .i1⟩
  | 82 => ⟨S_, .i1⟩
  | 83 => ⟨S16x300, .i1⟩
  | 84 => ⟨S16x300, .f32⟩
  | 85 => ⟨S_, .f32⟩
  | 86 => ⟨S16x300, .f32⟩
  | 87 => ⟨S16x300, .f32⟩
  | 88 => ⟨S_, .i32⟩
  | 89 => ⟨S16x300, .i32⟩
  | 90 => ⟨S16x300, .i1⟩
  | 91 => ⟨S_, .i32⟩
  | 92 => ⟨S16x300, .i32⟩
  | 93 => ⟨S16x300, .i32⟩
  | 94 => ⟨S16x300, .i32⟩
  | 95 => ⟨S16x300x1, .i32⟩
  | 96 => ⟨S1, .i32⟩
  | 97 => ⟨S_, .i32⟩
  | 98 => ⟨S16x300x1, .i32⟩
  | 99 => ⟨S16x300x1, .i1⟩
  | 100 => ⟨S1x1x1, .i32⟩
  | 101 => ⟨S16x300x1, .i32⟩
  | 102 => ⟨S16x300x1, .i1⟩
  | 103 => ⟨S16x300x1, .i1⟩
  | 104 => ⟨S_, .i1⟩
  | 105 => ⟨S16x300, .i1⟩
  | 106 => ⟨S16x300, .i32⟩
  | 107 => ⟨S_, .i32⟩
  | 108 => ⟨S16x300, .i32⟩
  | 109 => ⟨S16x300, .i32⟩
  | _ => ⟨S16x20000x85, .f32⟩

abbrev hbmTy (i : Nat) : BufTy := match i / 128 with
  | 0 => hbmTy0_0 i
  | 1 => hbmTy0_1 i
  | _ => ⟨S16x20000x85, .f32⟩

abbrev bufTy : (tb : Table) → Fin (tcTables nBuf tb) → BufTy
  | .hbm, ⟨i, _⟩ => hbmTy i
  | .local _ .vmem, ⟨0, _⟩ => ⟨S1x2000x85, .f32⟩
  | .local _ .vmem, ⟨1, _⟩ => ⟨S1x2000x85, .f32⟩
  | .local _ .vmem, ⟨2, _⟩ => ⟨S2000x2, .f32⟩
  | .local _ .vmem, ⟨3, _⟩ => ⟨S2000x2, .f32⟩
  | .local _ .vmem, ⟨4, _⟩ => ⟨S2000x2, .f32⟩
  | .local _ .vmem, ⟨5, _⟩ => ⟨S2000x2, .f32⟩
  | .local _ .vmem, ⟨6, _⟩ => ⟨S2000x2, .f32⟩
  | .local _ .vmem, ⟨7, _⟩ => ⟨S2000x2, .f32⟩
  | .local _ .vmem, ⟨8, _⟩ => ⟨S1x10x2000, .f32⟩
  | .local _ .vmem, ⟨9, _⟩ => ⟨S1x10x2000, .f32⟩
  | .local _ .vmem, ⟨10, _⟩ => ⟨S1x10x2000x4, .f32⟩
  | .local _ .vmem, ⟨11, _⟩ => ⟨S1x10x2000x4, .f32⟩
  | .local _ .vmem, ⟨12, _⟩ => ⟨S1x1024x4, .f32⟩
  | .local _ .vmem, ⟨13, _⟩ => ⟨S1x1024x4, .f32⟩
  | .local _ .vmem, ⟨14, _⟩ => ⟨S1x4x1024, .f32⟩
  | .local _ .vmem, ⟨15, _⟩ => ⟨S1x4x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1024x1024, .f32⟩
  | _, _ => ⟨S16x20000x85, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev main_values : Ref sig .tc := ⟨.hbm, 9, rfl⟩
abbrev main_indices : Ref sig .tc := ⟨.hbm, 10, rfl⟩
abbrev main_v3 : Ref sig .tc := ⟨.hbm, 11, rfl⟩
abbrev main_v4 : Ref sig .tc := ⟨.hbm, 12, rfl⟩
abbrev main_call1_c : Ref sig .tc := ⟨.hbm, 13, rfl⟩
abbrev main_call1_v0 : Ref sig .tc := ⟨.hbm, 14, rfl⟩
abbrev main_call1_v1 : Ref sig .tc := ⟨.hbm, 15, rfl⟩
abbrev main_call1_c_0 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_call1_c_1 : Ref sig .tc := ⟨.hbm, 20, rfl⟩
abbrev main_call1_c_2 : Ref sig .tc := ⟨.hbm, 21, rfl⟩
abbrev main_call1_v5 : Ref sig .tc := ⟨.hbm, 22, rfl⟩
abbrev main_call1_v6 : Ref sig .tc := ⟨.hbm, 23, rfl⟩
abbrev main_call1_v7 : Ref sig .tc := ⟨.hbm, 24, rfl⟩
abbrev main_call1_v8 : Ref sig .tc := ⟨.hbm, 25, rfl⟩
abbrev main_call1_v9 : Ref sig .tc := ⟨.hbm, 26, rfl⟩
abbrev main_call1_v10 : Ref sig .tc := ⟨.hbm, 27, rfl⟩
abbrev main_call1_c_3 : Ref sig .tc := ⟨.hbm, 28, rfl⟩
abbrev main_call1_v11 : Ref sig .tc := ⟨.hbm, 29, rfl⟩
abbrev main_call1_v12 : Ref sig .tc := ⟨.hbm, 30, rfl⟩
abbrev main_call1_v13 : Ref sig .tc := ⟨.hbm, 31, rfl⟩
abbrev main_call1_cst : Ref sig .tc := ⟨.hbm, 32, rfl⟩
abbrev main_call1_v14 : Ref sig .tc := ⟨.hbm, 33, rfl⟩
abbrev main_v5 : Ref sig .tc := ⟨.hbm, 34, rfl⟩
abbrev main_v6 : Ref sig .tc := ⟨.hbm, 35, rfl⟩
abbrev main_call2_c : Ref sig .tc := ⟨.hbm, 36, rfl⟩
abbrev main_call2_v0 : Ref sig .tc := ⟨.hbm, 37, rfl⟩
abbrev main_call2_v1 : Ref sig .tc := ⟨.hbm, 38, rfl⟩
abbrev main_call2_c_0 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_c_1 : Ref sig .tc := ⟨.hbm, 43, rfl⟩
abbrev main_call2_c_2 : Ref sig .tc := ⟨.hbm, 44, rfl⟩
abbrev main_call2_v5 : Ref sig .tc := ⟨.hbm, 45, rfl⟩
abbrev main_call2_v6 : Ref sig .tc := ⟨.hbm, 46, rfl⟩
abbrev main_call2_v7 : Ref sig .tc := ⟨.hbm, 47, rfl⟩
abbrev main_call2_v8 : Ref sig .tc := ⟨.hbm, 48, rfl⟩
abbrev main_call2_v9 : Ref sig .tc := ⟨.hbm, 49, rfl⟩
abbrev main_call2_v10 : Ref sig .tc := ⟨.hbm, 50, rfl⟩
abbrev main_call2_c_3 : Ref sig .tc := ⟨.hbm, 51, rfl⟩
abbrev main_call2_v11 : Ref sig .tc := ⟨.hbm, 52, rfl⟩
abbrev main_call2_v12 : Ref sig .tc := ⟨.hbm, 53, rfl⟩
abbrev main_call2_v13 : Ref sig .tc := ⟨.hbm, 54, rfl⟩
abbrev main_call2_cst : Ref sig .tc := ⟨.hbm, 55, rfl⟩
abbrev main_call2_v14 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_cst : Ref sig .tc := ⟨.hbm, 60, rfl⟩
abbrev main_v10 : Ref sig .tc := ⟨.hbm, 61, rfl⟩
abbrev main_v11 : Ref sig .tc := ⟨.hbm, 62, rfl⟩
abbrev main_cst_0 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_values_1 : Ref sig .tc := ⟨.hbm, 71, rfl⟩
abbrev main_indices_2 : Ref sig .tc := ⟨.hbm, 72, rfl⟩
abbrev main_c : Ref sig .tc := ⟨.hbm, 73, rfl⟩
abbrev main_call3_v0 : Ref sig .tc := ⟨.hbm, 74, rfl⟩
abbrev main_call3_c : Ref sig .tc := ⟨.hbm, 75, rfl⟩
abbrev main_call3_v1 : Ref sig .tc := ⟨.hbm, 76, rfl⟩
abbrev main_call3_c_0 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_c_1 : Ref sig .tc := ⟨.hbm, 81, rfl⟩
abbrev main_call3_v5 : Ref sig .tc := ⟨.hbm, 82, rfl⟩
abbrev main_call3_v6 : Ref sig .tc := ⟨.hbm, 83, rfl⟩
abbrev main_call3_c_2 : Ref sig .tc := ⟨.hbm, 84, rfl⟩
abbrev main_call3_v7 : Ref sig .tc := ⟨.hbm, 85, rfl⟩
abbrev main_call3_v8 : Ref sig .tc := ⟨.hbm, 86, rfl⟩
abbrev main_call3_c_3 : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_v12 : Ref sig .tc := ⟨.hbm, 91, rfl⟩
abbrev main_call3_v13 : Ref sig .tc := ⟨.hbm, 92, rfl⟩
abbrev main_call3_v14 : Ref sig .tc := ⟨.hbm, 93, rfl⟩
abbrev main_v19 : Ref sig .tc := ⟨.hbm, 94, rfl⟩
abbrev main_c_3 : Ref sig .tc := ⟨.hbm, 95, rfl⟩
abbrev main_call4_v0 : Ref sig .tc := ⟨.hbm, 96, rfl⟩
abbrev main_call4_v1 : Ref sig .tc := ⟨.hbm, 97, rfl⟩
abbrev main_call4_v2 : Ref sig .tc := ⟨.hbm, 98, rfl⟩
abbrev main_call4_v3 : Ref sig .tc := ⟨.hbm, 99, rfl⟩
abbrev main_call4_v4 : Ref sig .tc := ⟨.hbm, 100, rfl⟩
abbrev main_call4_v5 : Ref sig .tc := ⟨.hbm, 101, rfl⟩
abbrev main_call4_v6 : Ref sig .tc := ⟨.hbm, 102, rfl⟩
abbrev main_call4_v7 : Ref sig .tc := ⟨.hbm, 103, rfl⟩
abbrev main_call4_v8 : Ref sig .tc := ⟨.hbm, 104, rfl⟩
abbrev main_call4_c : Ref sig .tc := ⟨.hbm, 105, rfl⟩
abbrev main_call4_v9 : Ref sig .tc := ⟨.hbm, 106, rfl⟩
abbrev main_call4_v10 : Ref sig .tc := ⟨.hbm, 107, rfl⟩
abbrev main_call4_v11 : Ref sig .tc := ⟨.hbm, 108, rfl⟩
abbrev main_call4_c_0 : Ref sig .tc := ⟨.hbm, 109, rfl⟩
abbrev main_call4_v12 : Ref sig .tc := ⟨.hbm, 110, rfl⟩
abbrev main_call4_v13 : Ref sig .tc := ⟨.hbm, 111, rfl⟩
abbrev main_v20 : Ref sig .tc := ⟨.hbm, 112, rfl⟩
abbrev main_v21 : Ref sig .tc := ⟨.hbm, 113, rfl⟩
abbrev main_call5_c : Ref sig .tc := ⟨.hbm, 114, rfl⟩
abbrev main_call5_v0 : Ref sig .tc := ⟨.hbm, 115, rfl⟩
abbrev main_call5_v1 : Ref sig .tc := ⟨.hbm, 116, rfl⟩
abbrev main_call5_c_0 : Ref sig .tc := ⟨.hbm, 117, rfl⟩
abbrev main_call5_v2 : Ref sig .tc := ⟨.hbm, 118, rfl⟩
abbrev main_call5_v3 : Ref sig .tc := ⟨.hbm, 119, rfl⟩
abbrev main_call5_v4 : Ref sig .tc := ⟨.hbm, 120, rfl⟩
abbrev main_call5_c_1 : Ref sig .tc := ⟨.hbm, 121, rfl⟩
abbrev main_call5_c_2 : Ref sig .tc := ⟨.hbm, 122, rfl⟩
abbrev main_call5_v5 : Ref sig .tc := ⟨.hbm, 123, rfl⟩
abbrev main_call5_v6 : Ref sig .tc := ⟨.hbm, 124, rfl⟩
abbrev main_call5_v7 : Ref sig .tc := ⟨.hbm, 125, rfl⟩
abbrev main_call5_v8 : Ref sig .tc := ⟨.hbm, 126, rfl⟩
abbrev main_call5_v9 : Ref sig .tc := ⟨.hbm, 127, rfl⟩
abbrev main_call5_v10 : Ref sig .tc := ⟨.hbm, 128, rfl⟩
abbrev main_call5_c_3 : Ref sig .tc := ⟨.hbm, 129, rfl⟩
abbrev main_call5_v11 : Ref sig .tc := ⟨.hbm, 130, rfl⟩
abbrev main_call5_v12 : Ref sig .tc := ⟨.hbm, 131, rfl⟩
abbrev main_call5_v13 : Ref sig .tc := ⟨.hbm, 132, rfl⟩
abbrev main_call5_cst : Ref sig .tc := ⟨.hbm, 133, rfl⟩
abbrev main_call5_v14 : Ref sig .tc := ⟨.hbm, 134, rfl⟩
abbrev main_v22 : Ref sig .tc := ⟨.hbm, 135, rfl⟩
abbrev main_cst_4 : Ref sig .tc := ⟨.hbm, 136, rfl⟩
abbrev main_v23 : Ref sig .tc := ⟨.hbm, 137, rfl⟩
abbrev main_v24 : Ref sig .tc := ⟨.hbm, 138, rfl⟩
abbrev main_v25 : Ref sig .tc := ⟨.hbm, 139, rfl⟩
abbrev main_v26 : Ref sig .tc := ⟨.hbm, 140, rfl⟩
abbrev main_cst_5 : Ref sig .tc := ⟨.hbm, 141, rfl⟩
abbrev main_v27 : Ref sig .tc := ⟨.hbm, 142, rfl⟩
abbrev main_v28 : Ref sig .tc := ⟨.hbm, 143, rfl⟩
abbrev main_v29 : Ref sig .tc := ⟨.hbm, 144, rfl⟩
abbrev main_v30 : Ref sig .tc := ⟨.hbm, 145, rfl⟩
abbrev main_c_6 : Ref sig .tc := ⟨.hbm, 146, rfl⟩
abbrev main_call6_v0 : Ref sig .tc := ⟨.hbm, 147, rfl⟩
abbrev main_v31 : Ref sig .tc := ⟨.hbm, 148, rfl⟩
abbrev main_v32 : Ref sig .tc := ⟨.hbm, 149, rfl⟩
abbrev main_c_7 : Ref sig .tc := ⟨.hbm, 150, rfl⟩
abbrev main_call7_c : Ref sig .tc := ⟨.hbm, 151, rfl⟩
abbrev main_call7_v0 : Ref sig .tc := ⟨.hbm, 152, rfl⟩
abbrev main_call7_v1 : Ref sig .tc := ⟨.hbm, 153, rfl⟩
abbrev main_call7_v2 : Ref sig .tc := ⟨.hbm, 154, rfl⟩
abbrev main_v33 : Ref sig .tc := ⟨.hbm, 155, rfl⟩
abbrev main_v34 : Ref sig .tc := ⟨.hbm, 156, rfl⟩
abbrev main_v35 : Ref sig .tc := ⟨.hbm, 157, rfl⟩
abbrev main_v36 : Ref sig .tc := ⟨.hbm, 158, rfl⟩
abbrev main_v37 : Ref sig .tc := ⟨.hbm, 159, rfl⟩
abbrev main_v38 : Ref sig .tc := ⟨.hbm, 160, rfl⟩
abbrev main_cst_8 : Ref sig .tc := ⟨.hbm, 161, rfl⟩
abbrev main_v39 : Ref sig .tc := ⟨.hbm, 162, rfl⟩
abbrev main_v40 : Ref sig .tc := ⟨.hbm, 163, rfl⟩
abbrev main_v41 : Ref sig .tc := ⟨.hbm, 164, rfl⟩
abbrev main_cst_9 : Ref sig .tc := ⟨.hbm, 165, rfl⟩
abbrev main_call8_v0 : Ref sig .tc := ⟨.hbm, 166, rfl⟩
abbrev main_call8_v1 : Ref sig .tc := ⟨.hbm, 167, rfl⟩
abbrev main_v42 : Ref sig .tc := ⟨.hbm, 168, rfl⟩
abbrev main_values_10 : Ref sig .tc := ⟨.hbm, 169, rfl⟩
abbrev main_indices_11 : Ref sig .tc := ⟨.hbm, 170, rfl⟩
abbrev main_v43 : Ref sig .tc := ⟨.hbm, 171, rfl⟩
abbrev main_call9_c : Ref sig .tc := ⟨.hbm, 172, rfl⟩
abbrev main_call9_v0 : Ref sig .tc := ⟨.hbm, 173, rfl⟩
abbrev main_call9_v1 : Ref sig .tc := ⟨.hbm, 174, rfl⟩
abbrev main_call9_c_0 : Ref sig .tc := ⟨.hbm, 175, rfl⟩
abbrev main_call9_v2 : Ref sig .tc := ⟨.hbm, 176, rfl⟩
abbrev main_call9_v3 : Ref sig .tc := ⟨.hbm, 177, rfl⟩
abbrev main_call9_v4 : Ref sig .tc := ⟨.hbm, 178, rfl⟩
abbrev main_call9_c_1 : Ref sig .tc := ⟨.hbm, 179, rfl⟩
abbrev main_call9_c_2 : Ref sig .tc := ⟨.hbm, 180, rfl⟩
abbrev main_call9_v5 : Ref sig .tc := ⟨.hbm, 181, rfl⟩
abbrev main_call9_v6 : Ref sig .tc := ⟨.hbm, 182, rfl⟩
abbrev main_call9_v7 : Ref sig .tc := ⟨.hbm, 183, rfl⟩
abbrev main_call9_v8 : Ref sig .tc := ⟨.hbm, 184, rfl⟩
abbrev main_call9_v9 : Ref sig .tc := ⟨.hbm, 185, rfl⟩
abbrev main_call9_v10 : Ref sig .tc := ⟨.hbm, 186, rfl⟩
abbrev main_call9_c_3 : Ref sig .tc := ⟨.hbm, 187, rfl⟩
abbrev main_call9_v11 : Ref sig .tc := ⟨.hbm, 188, rfl⟩
abbrev main_call9_v12 : Ref sig .tc := ⟨.hbm, 189, rfl⟩
abbrev main_call9_v13 : Ref sig .tc := ⟨.hbm, 190, rfl⟩
abbrev main_call9_cst : Ref sig .tc := ⟨.hbm, 191, rfl⟩
abbrev main_call9_v14 : Ref sig .tc := ⟨.hbm, 192, rfl⟩
abbrev main_v44 : Ref sig .tc := ⟨.hbm, 193, rfl⟩
abbrev main_call10_c : Ref sig .tc := ⟨.hbm, 194, rfl⟩
abbrev main_call10_v0 : Ref sig .tc := ⟨.hbm, 195, rfl⟩
abbrev main_call10_v1 : Ref sig .tc := ⟨.hbm, 196, rfl⟩
abbrev main_call10_c_0 : Ref sig .tc := ⟨.hbm, 197, rfl⟩
abbrev main_call10_v2 : Ref sig .tc := ⟨.hbm, 198, rfl⟩
abbrev main_call10_v3 : Ref sig .tc := ⟨.hbm, 199, rfl⟩
abbrev main_call10_v4 : Ref sig .tc := ⟨.hbm, 200, rfl⟩
abbrev main_call10_v5 : Ref sig .tc := ⟨.hbm, 201, rfl⟩
abbrev main_call10_c_1 : Ref sig .tc := ⟨.hbm, 202, rfl⟩
abbrev main_call10_c_2 : Ref sig .tc := ⟨.hbm, 203, rfl⟩
abbrev main_call10_v6 : Ref sig .tc := ⟨.hbm, 204, rfl⟩
abbrev main_call10_v7 : Ref sig .tc := ⟨.hbm, 205, rfl⟩
abbrev main_call10_v8 : Ref sig .tc := ⟨.hbm, 206, rfl⟩
abbrev main_call10_v9 : Ref sig .tc := ⟨.hbm, 207, rfl⟩
abbrev main_call10_v10 : Ref sig .tc := ⟨.hbm, 208, rfl⟩
abbrev main_call10_v11 : Ref sig .tc := ⟨.hbm, 209, rfl⟩
abbrev main_call10_c_3 : Ref sig .tc := ⟨.hbm, 210, rfl⟩
abbrev main_call10_v12 : Ref sig .tc := ⟨.hbm, 211, rfl⟩
abbrev main_call10_v13 : Ref sig .tc := ⟨.hbm, 212, rfl⟩
abbrev main_call10_cst : Ref sig .tc := ⟨.hbm, 213, rfl⟩
abbrev main_call10_v14 : Ref sig .tc := ⟨.hbm, 214, rfl⟩
abbrev main_v45 : Ref sig .tc := ⟨.hbm, 215, rfl⟩
abbrev main_call11_c : Ref sig .tc := ⟨.hbm, 216, rfl⟩
abbrev main_call11_v0 : Ref sig .tc := ⟨.hbm, 217, rfl⟩
abbrev main_call11_v1 : Ref sig .tc := ⟨.hbm, 218, rfl⟩
abbrev main_call11_c_0 : Ref sig .tc := ⟨.hbm, 219, rfl⟩
abbrev main_call11_v2 : Ref sig .tc := ⟨.hbm, 220, rfl⟩
abbrev main_call11_v3 : Ref sig .tc := ⟨.hbm, 221, rfl⟩
abbrev main_call11_v4 : Ref sig .tc := ⟨.hbm, 222, rfl⟩
abbrev main_call11_v5 : Ref sig .tc := ⟨.hbm, 223, rfl⟩
abbrev main_call11_c_1 : Ref sig .tc := ⟨.hbm, 224, rfl⟩
abbrev main_call11_c_2 : Ref sig .tc := ⟨.hbm, 225, rfl⟩
abbrev main_call11_v6 : Ref sig .tc := ⟨.hbm, 226, rfl⟩
abbrev main_call11_v7 : Ref sig .tc := ⟨.hbm, 227, rfl⟩
abbrev main_call11_v8 : Ref sig .tc := ⟨.hbm, 228, rfl⟩
abbrev main_call11_v9 : Ref sig .tc := ⟨.hbm, 229, rfl⟩
abbrev main_call11_v10 : Ref sig .tc := ⟨.hbm, 230, rfl⟩
abbrev main_call11_v11 : Ref sig .tc := ⟨.hbm, 231, rfl⟩
abbrev main_call11_c_3 : Ref sig .tc := ⟨.hbm, 232, rfl⟩
abbrev main_call11_v12 : Ref sig .tc := ⟨.hbm, 233, rfl⟩
abbrev main_call11_v13 : Ref sig .tc := ⟨.hbm, 234, rfl⟩
abbrev main_call11_c_4 : Ref sig .tc := ⟨.hbm, 235, rfl⟩
abbrev main_call11_v14 : Ref sig .tc := ⟨.hbm, 236, rfl⟩
abbrev main_v46 : Ref sig .tc := ⟨.hbm, 237, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨2, ![16, 10], ![false, false]⟩

def k0_off1 (i : grid0.Coords) : Fin 3 → Nat :=
  let c0_2 : Index := 0#32
  let arg1 : BitVec 32 := BitVec.ofNat 32 (i 1).val
  let v8 : Index := Scalar.indexCast arg1
  let c0_3 : Index := 0#32
  ![0, v8.toNat, 0]
def k0_off2 (i : grid0.Coords) : Fin 4 → Nat :=
  let c0_15 : Index := 0#32
  let arg1 : BitVec 32 := BitVec.ofNat 32 (i 1).val
  let v34 : Index := Scalar.indexCast arg1
  let c0_16 : Index := 0#32
  let c0_17 : Index := 0#32
  ![0, v34.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x2000x85 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2000x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2000x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2000x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x10x2000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x10x2000x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x4x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S16x20000x85 : Shape := ⟨3, ![16, 20000, 85]⟩
abbrev S20000x2 : Shape := ⟨2, ![20000, 2]⟩
abbrev S16x2 : Shape := ⟨2, ![16, 2]⟩
abbrev S_ : Shape := ⟨0, ![]⟩
abbrev S16x20000x80 : Shape := ⟨3, ![16, 20000, 80]⟩
abbrev S16x20000x1 : Shape := ⟨3, ![16, 20000, 1]⟩
abbrev S16x20000x2 : Shape := ⟨3, ![16, 20000, 2]⟩
abbrev S1x20000x2 : Shape := ⟨3, ![1, 20000, 2]⟩
abbrev S16x20000x4 : Shape := ⟨3, ![16, 20000, 4]⟩
abbrev S16x1600000 : Shape := ⟨2, ![16, 1600000]⟩
abbrev S16x1000 : Shape := ⟨2, ![16, 1000]⟩
abbrev S16x1000x1 : Shape := ⟨3, ![16, 1000, 1]⟩
abbrev S1 : Shape := ⟨1, ![1]⟩
abbrev S1x1x1 : Shape := ⟨3, ![1, 1, 1]⟩
abbrev S16x1000x4 : Shape := ⟨3, ![16, 1000, 4]⟩
abbrev S16x1000x2 : Shape := ⟨3, ![16, 1000, 2]⟩
abbrev S16x1000x1x2 : Shape := ⟨4, ![16, 1000, 1, 2]⟩
abbrev S16x1x1000x2 : Shape := ⟨4, ![16, 1, 1000, 2]⟩
abbrev S16x1000x1000x2 : Shape := ⟨4, ![16, 1000, 1000, 2]⟩
abbrev S16x1000x1000x1 : Shape := ⟨4, ![16, 1000, 1000, 1]⟩
abbrev S16x1000x1000 : Shape := ⟨3, ![16, 1000, 1000]⟩
abbrev S16x1x1000 : Shape := ⟨3, ![16, 1, 1000]⟩
abbrev S1000 : Shape := ⟨1, ![1000]⟩
abbrev S1x1000 : Shape := ⟨2, ![1, 1000]⟩
abbrev S16x1 : Shape := ⟨2, ![16, 1]⟩
abbrev S16x300 : Shape := ⟨2, ![16, 300]⟩
abbrev S16x300x1 : Shape := ⟨3, ![16, 300, 1]⟩
abbrev S16x300x4 : Shape := ⟨3, ![16, 300, 4]⟩

abbrev nBuf : Space → Nat
  | .hbm => 287
  | .vmem => 0
  | .smem => 0
  | _ => 0

abbrev hbmTy0_0 (i : Nat) : BufTy := match i % 128 with
  | 0 => ⟨S16x20000x85, .f32⟩
  | 1 => ⟨S20000x2, .f32⟩
  | 2 => ⟨S20000x2, .f32⟩
  | 3 => ⟨S20000x2, .f32⟩
  | 4 => ⟨S16x2, .i32⟩
  | 5 => ⟨S16x20000x85, .f32⟩
  | 6 => ⟨S16x20000x85, .f32⟩
  | 7 => ⟨S_, .f32⟩
  | 8 => ⟨S16x20000x85, .f32⟩
  | 9 => ⟨S16x20000x85, .f32⟩
  | 10 => ⟨S_, .f32⟩
  | 11 => ⟨S16x20000x85, .f32⟩
  | 12 => ⟨S16x20000x85, .f32⟩
  | 13 => ⟨S16x20000x80, .f32⟩
  | 14 => ⟨S16x20000x1, .f32⟩
  | 15 => ⟨S16x20000x80, .f32⟩
  | 16 => ⟨S16x20000x80, .f32⟩
  | 17 => ⟨S16x20000x2, .f32⟩
  | 18 => ⟨S_, .f32⟩
  | 19 => ⟨S16x20000x2, .f32⟩
  | 20 => ⟨S16x20000x2, .f32⟩
  | 21 => ⟨S_, .f32⟩
  | 22 => ⟨S16x20000x2, .f32⟩
  | 23 => ⟨S16x20000x2, .f32⟩
  | 24 => ⟨S1x20000x2, .f32⟩
  | 25 => ⟨S16x20000x2, .f32⟩
  | 26 => ⟨S16x20000x2, .f32⟩
  | 27 => ⟨S1x20000x2, .f32⟩
  | 28 => ⟨S16x20000x2, .f32⟩
  | 29 => ⟨S16x20000x2, .f32⟩
  | 30 => ⟨S16x20000x2, .f32⟩
  | 31 => ⟨S_, .f32⟩
  | 32 => ⟨S16x20000x2, .f32⟩
  | 33 => ⟨S16x20000x2, .f32⟩
  | 34 => ⟨S16x20000x2, .f32⟩
  | 35 => ⟨S1x20000x2, .f32⟩
  | 36 => ⟨S16x20000x2, .f32⟩
  | 37 => ⟨S16x20000x2, .f32⟩
  | 38 => ⟨S_, .f32⟩
  | 39 => ⟨S16x20000x2, .f32⟩
  | 40 => ⟨S16x20000x2, .f32⟩
  | 41 => ⟨S16x20000x2, .f32⟩
  | 42 => ⟨S_, .f32⟩
  | 43 => ⟨S16x20000x2, .f32⟩
  | 44 => ⟨S16x20000x2, .f32⟩
  | 45 => ⟨S16x20000x2, .f32⟩
  | 46 => ⟨S16x20000x4, .f32⟩
  | 47 => ⟨S16x1600000, .f32⟩
  | 48 => ⟨S16x1000, .f32⟩
  | 49 => ⟨S16x1000, .i32⟩
  | 50 => ⟨S_, .i32⟩
  | 51 => ⟨S_, .i32⟩
  | 52 => ⟨S16x1000, .i32⟩
  | 53 => ⟨S16x1000, .i32⟩
  | 54 => ⟨S16x1000, .i32⟩
  | 55 => ⟨S_, .i32⟩
  | 56 => ⟨S16x1000, .i32⟩
  | 57 => ⟨S16x1000, .i1⟩
  | 58 => ⟨S16x1000, .i32⟩
  | 59 => ⟨S16x1000, .i32⟩
  | 60 => ⟨S_, .i32⟩
  | 61 => ⟨S16x1000, .i32⟩
  | 62 => ⟨S16x1000, .i1⟩
  | 63 => ⟨S16x1000, .i1⟩
  | 64 => ⟨S_, .i32⟩
  | 65 => ⟨S16x1000, .i32⟩
  | 66 => ⟨S16x1000, .i32⟩
  | 67 => ⟨S16x1000, .i32⟩
  | 68 => ⟨S_, .i32⟩
  | 69 => ⟨S_, .i32⟩
  | 70 => ⟨S_, .i32⟩
  | 71 => ⟨S_, .i1⟩
  | 72 => ⟨S_, .i32⟩
  | 73 => ⟨S_, .i32⟩
  | 74 => ⟨S16x1000, .i32⟩
  | 75 => ⟨S16x1000, .i32⟩
  | 76 => ⟨S_, .i32⟩
  | 77 => ⟨S16x1000, .i32⟩
  | 78 => ⟨S16x1000, .i1⟩
  | 79 => ⟨S_, .i32⟩
  | 80 => ⟨S16x1000, .i32⟩
  | 81 => ⟨S16x1000, .i1⟩
  | 82 => ⟨S_, .i32⟩
  | 83 => ⟨S_, .i1⟩
  | 84 => ⟨S16x1000, .i1⟩
  | 85 => ⟨S16x1000, .i1⟩
  | 86 => ⟨S16x1000, .i1⟩
  | 87 => ⟨S16x1000, .i32⟩
  | 88 => ⟨S16x1000, .i32⟩
  | 89 => ⟨S16x1000, .i32⟩
  | 90 => ⟨S16x1000x1, .i32⟩
  | 91 => ⟨S_, .i32⟩
  | 92 => ⟨S16x1000x1, .i32⟩
  | 93 => ⟨S16x1000x1, .i1⟩
  | 94 => ⟨S_, .i32⟩
  | 95 => ⟨S16x1000x1, .i32⟩
  | 96 => ⟨S16x1000x1, .i32⟩
  | 97 => ⟨S16x1000x1, .i32⟩
  | 98 => ⟨S1, .i32⟩
  | 99 => ⟨S_, .i32⟩
  | 100 => ⟨S16x1000x1, .i32⟩
  | 101 => ⟨S16x1000x1, .i1⟩
  | 102 => ⟨S1x1x1, .i32⟩
  | 103 => ⟨S16x1000x1, .i32⟩
  | 104 => ⟨S16x1000x1, .i1⟩
  | 105 => ⟨S16x1000x1, .i1⟩
  | 106 => ⟨S_, .i1⟩
  | 107 => ⟨S16x1000, .i1⟩
  | 108 => ⟨S16x1000x4, .f32⟩
  | 109 => ⟨S16x1000x4, .i1⟩
  | 110 => ⟨S_, .f32⟩
  | 111 => ⟨S16x1000x4, .f32⟩
  | 112 => ⟨S16x1000x4, .f32⟩
  | 113 => ⟨S_, .f32⟩
  | 114 => ⟨S16x1000, .f32⟩
  | 115 => ⟨S16x1000, .i1⟩
  | 116 => ⟨S16x1000, .f32⟩
  | 117 => ⟨S16x1000x1, .f32⟩
  | 118 => ⟨S_, .f32⟩
  | 119 => ⟨S16x1000x1, .f32⟩
  | 120 => ⟨S16x1000x1, .f32⟩
  | 121 => ⟨S16x1000x4, .f32⟩
  | 122 => ⟨S16x1000x4, .f32⟩
  | 123 => ⟨S16x1000x1, .f32⟩
  | 124 => ⟨S16x1000, .f32⟩
  | 125 => ⟨S16x1000x1, .f32⟩
  | 126 => ⟨S16x1000, .f32⟩
  | 127 => ⟨S16x1000, .f32⟩
  | _ => ⟨S16x20000x85, .f32⟩

abbrev hbmTy0_1 (i : Nat) : BufTy := match i % 128 with
  | 0 => ⟨S16x1000x1, .f32⟩
  | 1 => ⟨S16x1000, .f32⟩
  | 2 => ⟨S16x1000x1, .f32⟩
  | 3 => ⟨S16x1000, .f32⟩
  | 4 => ⟨S16x1000, .f32⟩
  | 5 => ⟨S16x1000, .f32⟩
  | 6 => ⟨S16x1000x2, .f32⟩
  | 7 => ⟨S16x1000x1x2, .f32⟩
  | 8 => ⟨S16x1000x2, .f32⟩
  | 9 => ⟨S16x1x1000x2, .f32⟩
  | 10 => ⟨S16x1000x1000x2, .f32⟩
  | 11 => ⟨S16x1000x1000x2, .f32⟩
  | 12 => ⟨S16x1000x1000x2, .f32⟩
  | 13 => ⟨S16x1000x2, .f32⟩
  | 14 => ⟨S16x1000x1x2, .f32⟩
  | 15 => ⟨S16x1000x2, .f32⟩
  | 16 => ⟨S16x1x1000x2, .f32⟩
  | 17 => ⟨S16x1000x1000x2, .f32⟩
  | 18 => ⟨S16x1000x1000x2, .f32⟩
  | 19 => ⟨S16x1000x1000x2, .f32⟩
  | 20 => ⟨S16x1000x1000x2, .f32⟩
  | 21 => ⟨S_, .f32⟩
  | 22 => ⟨S_, .f32⟩
  | 23 => ⟨S16x1000x1000x2, .f32⟩
  | 24 => ⟨S16x1000x1000x2, .f32⟩
  | 25 => ⟨S16x1000x1000x1, .f32⟩
  | 26 => ⟨S16x1000x1000, .f32⟩
  | 27 => ⟨S16x1000x1000x1, .f32⟩
  | 28 => ⟨S16x1000x1000, .f32⟩
  | 29 => ⟨S16x1000x1000, .f32⟩
  | 30 => ⟨S16x1000x1, .f32⟩
  | 31 => ⟨S16x1x1000, .f32⟩
  | 32 => ⟨S16x1000x1000, .f32⟩
  | 33 => ⟨S16x1000x1000, .f32⟩
  | 34 => ⟨S16x1000x1000, .f32⟩
  | 35 => ⟨S16x1000x1000, .f32⟩
  | 36 => ⟨S_, .f32⟩
  | 37 => ⟨S16x1000x1000, .f32⟩
  | 38 => ⟨S16x1000x1000, .f32⟩
  | 39 => ⟨S16x1000x1000, .f32⟩
  | 40 => ⟨S_, .f32⟩
  | 41 => ⟨S16x1000x1000, .f32⟩
  | 42 => ⟨S16x1000x1000, .i1⟩
  | 43 => ⟨S1000, .i32⟩
  | 44 => ⟨S_, .i32⟩
  | 45 => ⟨S_, .i32⟩
  | 46 => ⟨S16x1000x1000, .i1⟩
  | 47 => ⟨S1000, .i32⟩
  | 48 => ⟨S_, .i32⟩
  | 49 => ⟨S_, .i32⟩
  | 50 => ⟨S16x1000, .i1⟩
  | 51 => ⟨S_, .i32⟩
  | 52 => ⟨S_, .i1⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S_, .i32⟩
  | 60 => ⟨S_, .i32⟩
  | 61 => ⟨S_, .i32⟩
  | 62 => ⟨S_, .i32⟩
  | 63 => ⟨S16x1x1000, .i1⟩
  | 64 => ⟨S16x1000, .i1⟩
  | 65 => ⟨S_, .i32⟩
  | 66 => ⟨S1000, .i32⟩
  | 67 => ⟨S1000, .i1⟩
  | 68 => ⟨S1x1000, .i1⟩
  | 69 => ⟨S16x1000, .i1⟩
  | 70 => ⟨S16x1000, .i1⟩
  | 71 => ⟨S_, .i32⟩
  | 72 => ⟨S_, .i1⟩
  | 73 => ⟨S_, .i32⟩
  | 74 => ⟨S_, .i32⟩
  | 75 => ⟨S_, .i32⟩
  | 76 => ⟨S_, .i32⟩
  | 77 => ⟨S_, .i32⟩
  | 78 => ⟨S16x1, .i1⟩
  | 79 => ⟨S16x1000, .i1⟩
  | 80 => ⟨S16x1000, .i1⟩
  | 81 => ⟨S16x1000, .i1⟩
  | 82 => ⟨S16x1000, .i1⟩
  | 83 => ⟨S_, .i32⟩
  | 84 => ⟨S_, .i32⟩
  | 85 => ⟨S16x1000, .i1⟩
  | 86 => ⟨S_, .f32⟩
  | 87 => ⟨S_, .f32⟩
  | 88 => ⟨S16x1000, .f32⟩
  | 89 => ⟨S16x1000, .f32⟩
  | 90 => ⟨S16x300, .f32⟩
  | 91 => ⟨S16x300, .i32⟩
  | 92 => ⟨S16x300x1, .i32⟩
  | 93 => ⟨S_, .i32⟩
  | 94 => ⟨S16x300x1, .i32⟩
  | 95 => ⟨S16x300x1, .i1⟩
  | 96 => ⟨S_, .i32⟩
  | 97 => ⟨S16x300x1, .i32⟩
  | 98 => ⟨S16x300x1, .i32⟩
  | 99 => ⟨S16x300x1, .i32⟩
  | 100 => ⟨S1, .i32⟩
  | 101 => ⟨S_, .i32⟩
  | 102 => ⟨S16x300x1, .i32⟩
  | 103 => ⟨S16x300x1, .i1⟩
  | 104 => ⟨S1x1x1, .i32⟩
  | 105 => ⟨S16x300x1, .i32⟩
  | 106 => ⟨S16x300x1, .i1⟩
  | 107 => ⟨S16x300x1, .i1⟩
  | 108 => ⟨S_, .i1⟩
  | 109 => ⟨S16x300, .i1⟩
  | 110 => ⟨S16x300x4, .f32⟩
  | 111 => ⟨S16x300x4, .i1⟩
  | 112 => ⟨S_, .f32⟩
  | 113 => ⟨S16x300x4, .f32⟩
  | 114 => ⟨S16x300x4, .f32⟩
  | 115 => ⟨S_, .i32⟩
  | 116 => ⟨S16x300, .i32⟩
  | 117 => ⟨S16x300, .i1⟩
  | 118 => ⟨S_, .i32⟩
  | 119 => ⟨S16x300, .i32⟩
  | 120 => ⟨S16x300, .i32⟩
  | 121 => ⟨S16x300, .i32⟩
  | 122 => ⟨S16x300x1, .i32⟩
  | 123 => ⟨S1, .i32⟩
  | 124 => ⟨S_, .i32⟩
  | 125 => ⟨S16x300x1, .i32⟩
  | 126 => ⟨S16x300x1, .i1⟩
  | 127 => ⟨S1x1x1, .i32⟩
  | _ => ⟨S16x20000x85, .f32⟩

abbrev hbmTy0_2 (i : Nat) : BufTy := match i % 128 with
  | 0 => ⟨S16x300x1, .i32⟩
  | 1 => ⟨S16x300x1, .i1⟩
  | 2 => ⟨S16x300x1, .i1⟩
  | 3 => ⟨S_, .i1⟩
  | 4 => ⟨S16x300, .i1⟩
  | 5 => ⟨S16x300, .f32⟩
  | 6 => ⟨S_, .f32⟩
  | 7 => ⟨S16x300, .f32⟩
  | 8 => ⟨S16x300, .f32⟩
  | 9 => ⟨S_, .i32⟩
  | 10 => ⟨S16x300, .i32⟩
  | 11 => ⟨S16x300, .i1⟩
  | 12 => ⟨S_, .i32⟩
  | 13 => ⟨S16x300, .i32⟩
  | 14 => ⟨S16x300, .i32⟩
  | 15 => ⟨S16x300, .i32⟩
  | 16 => ⟨S16x300x1, .i32⟩
  | 17 => ⟨S1, .i32⟩
  | 18 => ⟨S_, .i32⟩
  | 19 => ⟨S16x300x1, .i32⟩
  | 20 => ⟨S16x300x1, .i1⟩
  | 21 => ⟨S1x1x1, .i32⟩
  | 22 => ⟨S16x300x1, .i32⟩
  | 23 => ⟨S16x300x1, .i1⟩
  | 24 => ⟨S16x300x1, .i1⟩
  | 25 => ⟨S_, .i1⟩
  | 26 => ⟨S16x300, .i1⟩
  | 27 => ⟨S16x300, .i32⟩
  | 28 => ⟨S_, .i32⟩
  | 29 => ⟨S16x300, .i32⟩
  | 30 => ⟨S16x300, .i32⟩
  | _ => ⟨S16x20000x85, .f32⟩

abbrev hbmTy (i : Nat) : BufTy := match i / 128 with
  | 0 => hbmTy0_0 i
  | 1 => hbmTy0_1 i
  | 2 => hbmTy0_2 i
  | _ => ⟨S16x20000x85, .f32⟩

abbrev bufTy : (tb : Table) → Fin (tcTables nBuf tb) → BufTy
  | .hbm, ⟨i, _⟩ => hbmTy i
  | _, _ => ⟨S16x20000x85, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_values : Ref sig .tc := ⟨.hbm, 48, rfl⟩
abbrev main_indices : Ref sig .tc := ⟨.hbm, 49, rfl⟩
abbrev main_c : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_v5 : Ref sig .tc := ⟨.hbm, 56, rfl⟩
abbrev main_call0_v6 : Ref sig .tc := ⟨.hbm, 57, rfl⟩
abbrev main_call0_v7 : Ref sig .tc := ⟨.hbm, 58, rfl⟩
abbrev main_call0_v8 : Ref sig .tc := ⟨.hbm, 59, rfl⟩
abbrev main_call0_c : Ref sig .tc := ⟨.hbm, 60, rfl⟩
abbrev main_call0_v9 : Ref sig .tc := ⟨.hbm, 61, rfl⟩
abbrev main_call0_v10 : Ref sig .tc := ⟨.hbm, 62, rfl⟩
abbrev main_call0_v11 : Ref sig .tc := ⟨.hbm, 63, rfl⟩
abbrev main_call0_c_0 : Ref sig .tc := ⟨.hbm, 64, rfl⟩
abbrev main_call0_v12 : Ref sig .tc := ⟨.hbm, 65, rfl⟩
abbrev main_call0_v13 : Ref sig .tc := ⟨.hbm, 66, rfl⟩
abbrev main_v36 : Ref sig .tc := ⟨.hbm, 67, rfl⟩
abbrev main_c_6 : Ref sig .tc := ⟨.hbm, 68, rfl⟩
abbrev main_call1_v0 : Ref sig .tc := ⟨.hbm, 69, rfl⟩
abbrev main_call1_c : Ref sig .tc := ⟨.hbm, 70, rfl⟩
abbrev main_call1_v1 : Ref sig .tc := ⟨.hbm, 71, rfl⟩
abbrev main_call1_c_0 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_call1_c_1 : Ref sig .tc := ⟨.hbm, 76, rfl⟩
abbrev main_call1_v5 : Ref sig .tc := ⟨.hbm, 77, rfl⟩
abbrev main_call1_v6 : Ref sig .tc := ⟨.hbm, 78, rfl⟩
abbrev main_call1_c_2 : Ref sig .tc := ⟨.hbm, 79, rfl⟩
abbrev main_call1_v7 : Ref sig .tc := ⟨.hbm, 80, rfl⟩
abbrev main_call1_v8 : Ref sig .tc := ⟨.hbm, 81, rfl⟩
abbrev main_call1_c_3 : Ref sig .tc := ⟨.hbm, 82, rfl⟩
abbrev main_call1_v9 : Ref sig .tc := ⟨.hbm, 83, rfl⟩
abbrev main_call1_v10 : Ref sig .tc := ⟨.hbm, 84, rfl⟩
abbrev main_call1_v11 : Ref sig .tc := ⟨.hbm, 85, rfl⟩
abbrev main_call1_v12 : Ref sig .tc := ⟨.hbm, 86, rfl⟩
abbrev main_call1_v13 : Ref sig .tc := ⟨.hbm, 87, rfl⟩
abbrev main_call1_v14 : Ref sig .tc := ⟨.hbm, 88, rfl⟩
abbrev main_v37 : Ref sig .tc := ⟨.hbm, 89, rfl⟩
abbrev main_v38 : Ref sig .tc := ⟨.hbm, 90, rfl⟩
abbrev main_call2_c : Ref sig .tc := ⟨.hbm, 91, rfl⟩
abbrev main_call2_v0 : Ref sig .tc := ⟨.hbm, 92, rfl⟩
abbrev main_call2_v1 : Ref sig .tc := ⟨.hbm, 93, rfl⟩
abbrev main_call2_c_0 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_call2_c_1 : Ref sig .tc := ⟨.hbm, 98, rfl⟩
abbrev main_call2_c_2 : Ref sig .tc := ⟨.hbm, 99, rfl⟩
abbrev main_call2_v5 : Ref sig .tc := ⟨.hbm, 100, rfl⟩
abbrev main_call2_v6 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_call2_c_3 : Ref sig .tc := ⟨.hbm, 106, rfl⟩
abbrev main_call2_v11 : Ref sig .tc := ⟨.hbm, 107, rfl⟩
abbrev main_call2_v12 : Ref sig .tc := ⟨.hbm, 108, rfl⟩
abbrev main_call2_v13 : Ref sig .tc := ⟨.hbm, 109, rfl⟩
abbrev main_call2_cst : Ref sig .tc := ⟨.hbm, 110, rfl⟩
abbrev main_call2_v14 : Ref sig .tc := ⟨.hbm, 111, rfl⟩
abbrev main_v39 : Ref sig .tc := ⟨.hbm, 112, rfl⟩
abbrev main_cst_7 : Ref sig .tc := ⟨.hbm, 113, rfl⟩
abbrev main_v40 : Ref sig .tc := ⟨.hbm, 114, rfl⟩
abbrev main_v41 : Ref sig .tc := ⟨.hbm, 115, rfl⟩
abbrev main_v42 : Ref sig .tc := ⟨.hbm, 116, rfl⟩
abbrev main_v43 : Ref sig .tc := ⟨.hbm, 117, rfl⟩
abbrev main_cst_8 : Ref sig .tc := ⟨.hbm, 118, rfl⟩
abbrev main_v44 : Ref sig .tc := ⟨.hbm, 119, rfl⟩
abbrev main_v45 : Ref sig .tc := ⟨.hbm, 120, rfl⟩
abbrev main_v46 : Ref sig .tc := ⟨.hbm, 121, rfl⟩
abbrev main_v47 : Ref sig .tc := ⟨.hbm, 122, rfl⟩
abbrev main_v48 : Ref sig .tc := ⟨.hbm, 123, rfl⟩
abbrev main_v49 : Ref sig .tc := ⟨.hbm, 124, rfl⟩
abbrev main_v50 : Ref sig .tc := ⟨.hbm, 125, rfl⟩
abbrev main_v51 : Ref sig .tc := ⟨.hbm, 126, rfl⟩
abbrev main_v52 : Ref sig .tc := ⟨.hbm, 127, rfl⟩
abbrev main_v53 : Ref sig .tc := ⟨.hbm, 128, rfl⟩
abbrev main_v54 : Ref sig .tc := ⟨.hbm, 129, rfl⟩
abbrev main_v55 : Ref sig .tc := ⟨.hbm, 130, rfl⟩
abbrev main_v56 : Ref sig .tc := ⟨.hbm, 131, rfl⟩
abbrev main_v57 : Ref sig .tc := ⟨.hbm, 132, rfl⟩
abbrev main_v58 : Ref sig .tc := ⟨.hbm, 133, rfl⟩
abbrev main_v59 : Ref sig .tc := ⟨.hbm, 134, rfl⟩
abbrev main_v60 : Ref sig .tc := ⟨.hbm, 135, rfl⟩
abbrev main_v61 : Ref sig .tc := ⟨.hbm, 136, rfl⟩
abbrev main_v62 : Ref sig .tc := ⟨.hbm, 137, rfl⟩
abbrev main_v63 : Ref sig .tc := ⟨.hbm, 138, rfl⟩
abbrev main_v64 : Ref sig .tc := ⟨.hbm, 139, rfl⟩
abbrev main_v65 : Ref sig .tc := ⟨.hbm, 140, rfl⟩
abbrev main_v66 : Ref sig .tc := ⟨.hbm, 141, rfl⟩
abbrev main_v67 : Ref sig .tc := ⟨.hbm, 142, rfl⟩
abbrev main_v68 : Ref sig .tc := ⟨.hbm, 143, rfl⟩
abbrev main_v69 : Ref sig .tc := ⟨.hbm, 144, rfl⟩
abbrev main_v70 : Ref sig .tc := ⟨.hbm, 145, rfl⟩
abbrev main_v71 : Ref sig .tc := ⟨.hbm, 146, rfl⟩
abbrev main_v72 : Ref sig .tc := ⟨.hbm, 147, rfl⟩
abbrev main_v73 : Ref sig .tc := ⟨.hbm, 148, rfl⟩
abbrev main_cst_9 : Ref sig .tc := ⟨.hbm, 149, rfl⟩
abbrev main_call3_v0 : Ref sig .tc := ⟨.hbm, 150, rfl⟩
abbrev main_call3_v1 : Ref sig .tc := ⟨.hbm, 151, rfl⟩
abbrev main_v74 : Ref sig .tc := ⟨.hbm, 152, rfl⟩
abbrev main_v75 : Ref sig .tc := ⟨.hbm, 153, rfl⟩
abbrev main_v76 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩
abbrev main_v82 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_cst_10 : Ref sig .tc := ⟨.hbm, 164, rfl⟩
abbrev main_v86 : Ref sig .tc := ⟨.hbm, 165, rfl⟩
abbrev main_v87 : Ref sig .tc := ⟨.hbm, 166, rfl⟩
abbrev main_v88 : Ref sig .tc := ⟨.hbm, 167, rfl⟩
abbrev main_cst_11 : Ref sig .tc := ⟨.hbm, 168, rfl⟩
abbrev main_v89 : Ref sig .tc := ⟨.hbm, 169, rfl⟩
abbrev main_v90 : Ref sig .tc := ⟨.hbm, 170, rfl⟩
abbrev main_v91 : Ref sig .tc := ⟨.hbm, 171, rfl⟩
abbrev main_c_12 : Ref sig .tc := ⟨.hbm, 172, rfl⟩
abbrev main_c_13 : Ref sig .tc := ⟨.hbm, 173, rfl⟩
abbrev main_v92_0 : Ref sig .tc := ⟨.hbm, 174, rfl⟩
abbrev main_v92_1 : Ref sig .tc := ⟨.hbm, 175, rfl⟩
abbrev main_v92_2 : Ref sig .tc := ⟨.hbm, 176, rfl⟩
abbrev main_v92_3 : Ref sig .tc := ⟨.hbm, 177, rfl⟩
abbrev main_v92_4 : Ref sig .tc := ⟨.hbm, 178, rfl⟩
abbrev main_while0c_c_21 : Ref sig .tc := ⟨.hbm, 179, rfl⟩
abbrev main_while0c_v99 : Ref sig .tc := ⟨.hbm, 180, rfl⟩
abbrev main_while0b_c_21 : Ref sig .tc := ⟨.hbm, 181, rfl⟩
abbrev main_while0b_v99 : Ref sig .tc := ⟨.hbm, 182, rfl⟩
abbrev main_while0b_call4_c : Ref sig .tc := ⟨.hbm, 183, rfl⟩
abbrev main_while0b_call4_v0 : Ref sig .tc := ⟨.hbm, 184, rfl⟩
abbrev main_while0b_call4_v1 : Ref sig .tc := ⟨.hbm, 185, rfl⟩
abbrev main_while0b_call4_c_0 : Ref sig .tc := ⟨.hbm, 186, rfl⟩
abbrev main_while0b_call4_v2 : Ref sig .tc := ⟨.hbm, 187, rfl⟩
abbrev main_while0b_call4_v3 : Ref sig .tc := ⟨.hbm, 188, rfl⟩
abbrev main_while0b_call4_c_1 : Ref sig .tc := ⟨.hbm, 189, rfl⟩
abbrev main_while0b_call4_c_2 : Ref sig .tc := ⟨.hbm, 190, rfl⟩
abbrev main_while0b_call4_v4 : Ref sig .tc := ⟨.hbm, 191, rfl⟩
abbrev main_while0b_v100 : Ref sig .tc := ⟨.hbm, 192, rfl⟩
abbrev main_while0b_v101 : Ref sig .tc := ⟨.hbm, 193, rfl⟩
abbrev main_while0b_v102 : Ref sig .tc := ⟨.hbm, 194, rfl⟩
abbrev main_while0b_v103 : Ref sig .tc := ⟨.hbm, 195, rfl⟩
abbrev main_while0b_v104 : Ref sig .tc := ⟨.hbm, 196, rfl⟩
abbrev main_while0b_v105 : Ref sig .tc := ⟨.hbm, 197, rfl⟩
abbrev main_while0b_v106 : Ref sig .tc := ⟨.hbm, 198, rfl⟩
abbrev main_while0b_call5_c : Ref sig .tc := ⟨.hbm, 199, rfl⟩
abbrev main_while0b_call5_v0 : Ref sig .tc := ⟨.hbm, 200, rfl⟩
abbrev main_while0b_call5_v1 : Ref sig .tc := ⟨.hbm, 201, rfl⟩
abbrev main_while0b_call5_c_0 : Ref sig .tc := ⟨.hbm, 202, rfl⟩
abbrev main_while0b_call5_v2 : Ref sig .tc := ⟨.hbm, 203, rfl⟩
abbrev main_while0b_call5_v3 : Ref sig .tc := ⟨.hbm, 204, rfl⟩
abbrev main_while0b_call5_c_1 : Ref sig .tc := ⟨.hbm, 205, rfl⟩
abbrev main_while0b_v107 : Ref sig .tc := ⟨.hbm, 206, rfl⟩
abbrev main_while0b_v108 : Ref sig .tc := ⟨.hbm, 207, rfl⟩
abbrev main_while0b_v109 : Ref sig .tc := ⟨.hbm, 208, rfl⟩
abbrev main_while0b_call6_v0 : Ref sig .tc := ⟨.hbm, 209, rfl⟩
abbrev main_while0b_v110 : Ref sig .tc := ⟨.hbm, 210, rfl⟩
abbrev main_while0b_c_22 : Ref sig .tc := ⟨.hbm, 211, rfl⟩
abbrev main_while0b_v111 : Ref sig .tc := ⟨.hbm, 212, rfl⟩
abbrev main_v93 : Ref sig .tc := ⟨.hbm, 213, rfl⟩
abbrev main_cst_14 : Ref sig .tc := ⟨.hbm, 214, rfl⟩
abbrev main_call7_v0 : Ref sig .tc := ⟨.hbm, 215, rfl⟩
abbrev main_call7_v1 : Ref sig .tc := ⟨.hbm, 216, rfl⟩
abbrev main_v94 : Ref sig .tc := ⟨.hbm, 217, rfl⟩
abbrev main_values_15 : Ref sig .tc := ⟨.hbm, 218, rfl⟩
abbrev main_indices_16 : Ref sig .tc := ⟨.hbm, 219, rfl⟩
abbrev main_v95 : Ref sig .tc := ⟨.hbm, 220, rfl⟩
abbrev main_call8_c : Ref sig .tc := ⟨.hbm, 221, rfl⟩
abbrev main_call8_v0 : Ref sig .tc := ⟨.hbm, 222, rfl⟩
abbrev main_call8_v1 : Ref sig .tc := ⟨.hbm, 223, rfl⟩
abbrev main_call8_c_0 : Ref sig .tc := ⟨.hbm, 224, rfl⟩
abbrev main_call8_v2 : Ref sig .tc := ⟨.hbm, 225, rfl⟩
abbrev main_call8_v3 : Ref sig .tc := ⟨.hbm, 226, rfl⟩
abbrev main_call8_v4 : Ref sig .tc := ⟨.hbm, 227, rfl⟩
abbrev main_call8_c_1 : Ref sig .tc := ⟨.hbm, 228, rfl⟩
abbrev main_call8_c_2 : Ref sig .tc := ⟨.hbm, 229, rfl⟩
abbrev main_call8_v5 : Ref sig .tc := ⟨.hbm, 230, rfl⟩
abbrev main_call8_v6 : Ref sig .tc := ⟨.hbm, 231, rfl⟩
abbrev main_call8_v7 : Ref sig .tc := ⟨.hbm, 232, rfl⟩
abbrev main_call8_v8 : Ref sig .tc := ⟨.hbm, 233, rfl⟩
abbrev main_call8_v9 : Ref sig .tc := ⟨.hbm, 234, rfl⟩
abbrev main_call8_v10 : Ref sig .tc := ⟨.hbm, 235, rfl⟩
abbrev main_call8_c_3 : Ref sig .tc := ⟨.hbm, 236, rfl⟩
abbrev main_call8_v11 : Ref sig .tc := ⟨.hbm, 237, rfl⟩
abbrev main_call8_v12 : Ref sig .tc := ⟨.hbm, 238, rfl⟩
abbrev main_call8_v13 : Ref sig .tc := ⟨.hbm, 239, rfl⟩
abbrev main_call8_cst : Ref sig .tc := ⟨.hbm, 240, rfl⟩
abbrev main_call8_v14 : Ref sig .tc := ⟨.hbm, 241, rfl⟩
abbrev main_v96 : Ref sig .tc := ⟨.hbm, 242, rfl⟩
abbrev main_call9_c : Ref sig .tc := ⟨.hbm, 243, rfl⟩
abbrev main_call9_v0 : Ref sig .tc := ⟨.hbm, 244, rfl⟩
abbrev main_call9_v1 : Ref sig .tc := ⟨.hbm, 245, rfl⟩
abbrev main_call9_c_0 : Ref sig .tc := ⟨.hbm, 246, rfl⟩
abbrev main_call9_v2 : Ref sig .tc := ⟨.hbm, 247, rfl⟩
abbrev main_call9_v3 : Ref sig .tc := ⟨.hbm, 248, rfl⟩
abbrev main_call9_v4 : Ref sig .tc := ⟨.hbm, 249, rfl⟩
abbrev main_call9_v5 : Ref sig .tc := ⟨.hbm, 250, rfl⟩
abbrev main_call9_c_1 : Ref sig .tc := ⟨.hbm, 251, rfl⟩
abbrev main_call9_c_2 : Ref sig .tc := ⟨.hbm, 252, rfl⟩
abbrev main_call9_v6 : Ref sig .tc := ⟨.hbm, 253, rfl⟩
abbrev main_call9_v7 : Ref sig .tc := ⟨.hbm, 254, rfl⟩
abbrev main_call9_v8 : Ref sig .tc := ⟨.hbm, 255, rfl⟩
abbrev main_call9_v9 : Ref sig .tc := ⟨.hbm, 256, rfl⟩
abbrev main_call9_v10 : Ref sig .tc := ⟨.hbm, 257, rfl⟩
abbrev main_call9_v11 : Ref sig .tc := ⟨.hbm, 258, rfl⟩
abbrev main_call9_c_3 : Ref sig .tc := ⟨.hbm, 259, rfl⟩
abbrev main_call9_v12 : Ref sig .tc := ⟨.hbm, 260, rfl⟩
abbrev main_call9_v13 : Ref sig .tc := ⟨.hbm, 261, rfl⟩
abbrev main_call9_cst : Ref sig .tc := ⟨.hbm, 262, rfl⟩
abbrev main_call9_v14 : Ref sig .tc := ⟨.hbm, 263, rfl⟩
abbrev main_v97 : Ref sig .tc := ⟨.hbm, 264, rfl⟩
abbrev main_call10_c : Ref sig .tc := ⟨.hbm, 265, rfl⟩
abbrev main_call10_v0 : Ref sig .tc := ⟨.hbm, 266, rfl⟩
abbrev main_call10_v1 : Ref sig .tc := ⟨.hbm, 267, rfl⟩
abbrev main_call10_c_0 : Ref sig .tc := ⟨.hbm, 268, rfl⟩
abbrev main_call10_v2 : Ref sig .tc := ⟨.hbm, 269, rfl⟩
abbrev main_call10_v3 : Ref sig .tc := ⟨.hbm, 270, rfl⟩
abbrev main_call10_v4 : Ref sig .tc := ⟨.hbm, 271, rfl⟩
abbrev main_call10_v5 : Ref sig .tc := ⟨.hbm, 272, rfl⟩
abbrev main_call10_c_1 : Ref sig .tc := ⟨.hbm, 273, rfl⟩
abbrev main_call10_c_2 : Ref sig .tc := ⟨.hbm, 274, rfl⟩
abbrev main_call10_v6 : Ref sig .tc := ⟨.hbm, 275, rfl⟩
abbrev main_call10_v7 : Ref sig .tc := ⟨.hbm, 276, rfl⟩
abbrev main_call10_v8 : Ref sig .tc := ⟨.hbm, 277, rfl⟩
abbrev main_call10_v9 : Ref sig .tc := ⟨.hbm, 278, rfl⟩
abbrev main_call10_v10 : Ref sig .tc := ⟨.hbm, 279, rfl⟩
abbrev main_call10_v11 : Ref sig .tc := ⟨.hbm, 280, rfl⟩
abbrev main_call10_c_3 : Ref sig .tc := ⟨.hbm, 281, rfl⟩
abbrev main_call10_v12 : Ref sig .tc := ⟨.hbm, 282, rfl⟩
abbrev main_call10_v13 : Ref sig .tc := ⟨.hbm, 283, rfl⟩
abbrev main_call10_c_4 : Ref sig .tc := ⟨.hbm, 284, rfl⟩
abbrev main_call10_v14 : Ref sig .tc := ⟨.hbm, 285, rfl⟩
abbrev main_v98 : Ref sig .tc := ⟨.hbm, 286, rfl⟩

abbrev nD : Nat := 1
abbrev τ : Topo := Topo.v7x

variable {F : FTy → Type} [FloatOps F]

abbrev main_while0_count : Scf.Loop 32 := ⟨0#32, 1000#32, 1#32⟩
-- ==== Proof.RelRegion.lean ====
/-
  A kernel region whose proof data are relational, as a segment of the host program: entered with every unscoped buffer of
  the core held at one valuation, left with every one held at another. The windows' arrays are allowed to end at whatever
  the relation between points allows; the hypothesis `hexact` says that this leaves one possibility only.
-/
module

public import Idealize.ShloMosaic.Lib.Pipeline.Frame
public import Idealize.ShloMosaic.Lib.Pipeline.Kit
public import Idealize.ShloMosaic.Lib.Pipeline.Regions
public import Idealize.ShloMosaic.Lib.Pipeline.RegionArrays
public import Idealize.ShloMosaic.Lib.Pipeline.ArrRel

@[expose] public section

noncomputable section

namespace Cert.KernelIdeal.Hand

open Idealize.ShloMosaic Idealize.ShloMosaic.TcCoe
open Idealize.SL Idealize.SL.RA Idealize.SL.RA.PCS
open Idealize.SL.BI (sProp bigSep bigSep_congr bigSep_map)
open scoped Idealize.SL.BI
open Idealize.SL.BI.BIBase Idealize.SL.BI.Laws Idealize.SL.Sem Idealize.SL.ProofMode
open Idealize.ShloMosaic.Pipeline
open Idealize.ShloMosaic.Rounds

set_option Elab.async false

variable {nD : Nat} {τ : Topo} {sig : RefSig} {Val : EltTy → Type}
variable {Ix : Type} [DecidableEq Ix] {Name : Type} [DecidableEq Name] {U : Type} [URA U] {Lvl : Type} [Preorder Lvl]

local notation "𝕄" => MT nD τ sig Ix Val Name U Lvl

variable {Λ₀ : Idealize.SL.Sem.Labels} {P : Type} [Fintype P] [∀ e, Nonempty (Val e)]

omit [Preorder Lvl] in
/-- The arrays after a run under relational data: held at some contents, each of which the relation allows. -/
theorem arraysAt_some {cfg : Cfg sig Λ₀} {c : Dev nD} (rd : RDat τ Val Ix Name U Lvl cfg c) (n : Nat) :
    (rd.arraysAt n : sProp 𝕄) ⊢ iprop(∃ A : (w : Fin cfg.W) → Buf Val ((cfg.win w).arr.view.loc (c.tc : Thread nD τ)),
      ⌜∀ w, rd.ArrAt w n (A w)⌝ ∗ rd.arrays A) := by
  unfold RDat.arraysAt RDat.arrays
  refine (BI.bigSep_exists_pi Finset.univ _).trans ?_
  iintro ⟨%A, H⟩
  ihave H' := (BI.bigSep_pure_sep Finset.univ (fun w => rd.ArrAt w n (A w)) _) $$ H
  icases H' with ⟨%hA, H⟩
  iexists A
  isplitr
  · ipureintro; exact fun w => hA w (Finset.mem_univ w)
  iexact H

variable (pcs : P → PCfg sig Λ₀ Val) (a : (p : P) → (pcs p).Adm)
  (rdats : (p : P) → (c : Dev nD) → RDat τ Val Ix Name U Lvl (pin pcs a p) c) (ι : Ix)
  (defs₀ : Defs nD τ sig Val Λ₀) (𝒱₀ : Variants)
  (L : GSem nD τ sig → Finset Ix) (lv : GSem nD τ sig → Ix → Lvl)
  (p : P)

omit [Preorder Lvl] in
/-- Relational data's arrays at contents that a valuation has are the arrays' references held at the valuation. -/
theorem rel_arrays_held (kit : PLaunchFacts (nD := nD) (τ := τ) pcs p) (c : Dev nD) (hshare : ∀ w, (rdats p c).share w = fullShare)
    (G : (w : Fin (pin pcs a p).W) → Buf Val (((pin pcs a p).win w).arr.view.loc (c.tc : Thread nD τ))) (Wc : Valuation τ sig Val)
    (hG : ∀ w, G w = Wc (Proc.devRef .tc (arrRef (pin pcs a p).spec w))) :
    ((rdats p c).arrays G : sProp 𝕄) = StableHlo.held (c.tc : Thread nD τ) (arrRefs (pcs p).spec) Wc :=
  arrays_held pcs a (fun q c => (rdats q c).withAfter fun _ _ _ => Classical.arbitrary _) p kit c hshare G Wc hG

/-- The region as a segment: the body's invariant is the scoped buffers that no window stages, the core owes nothing. -/
def relSeg (kit : PLaunchFacts (nD := nD) (τ := τ) pcs p) (hK : (pcs p).pre.K = 0)
    (hbody : ∀ c, (rdats p c).BodyObligation defs₀ 𝒱₀ ι Set.univ)
    (howed : ∀ c t, (rdats p c).owed t = 0) (hrec : ∀ c, (rdats p c).recorded 0 = Set.univ)
    (hshare : ∀ c w, (rdats p c).share w = fullShare)
    (hΦ : ∀ c t, (rdats p c).Φ t = scopedRest (pin pcs a p).spec c)
    (W W' : Dev nD → Valuation τ sig Val)
    (hW : ∀ c w, (rdats p c).A w = W c (Proc.devRef .tc (arrRef (pin pcs a p).spec w)))
    (hexact : ∀ (c : Dev nD) (A : (w : Fin (pin pcs a p).W) → Buf Val (((pin pcs a p).win w).arr.view.loc (c.tc : Thread nD τ))), (∀ w, (rdats p c).ArrAt w (pin pcs a p).N (A w)) →
      ∀ w, A w = W' c (Proc.devRef .tc (arrRef (pin pcs a p).spec w)))
    (hoff : ∀ c, ∀ b ∈ ucRefs τ sig \ arrRefs (τ := τ) (pcs p).spec, W' c b = W c b) :
    RDat.RegionSeg pcs a rdats ι defs₀ 𝒱₀ L lv p where
  win := kit.to₀.win
  block_pos := kit.to₀.block_pos
  stage_whole := kit.to₀.stage_whole
  K := PEmpty
  osem k := k.elim
  ho := OwnSemFacts.none _
  hbody := hbody
  hwaits c := RDat.hwaits_of_owed_zero pcs a rdats ι L lv p howed c
  pre c := iprop(StableHlo.held (c.tc : Thread nD τ) (ucRefs τ sig) (W c) ∗ ∃ Wd, owes (c : Thread nD τ) (0 : CellTallies nD τ sig Ix) Wd)
  post c := iprop(StableHlo.held (c.tc : Thread nD τ) (ucRefs τ sig) (W' c) ∗ ∃ Wd, owes (c : Thread nD τ) (0 : CellTallies nD τ sig Ix) Wd)
  X _ := BI.emp
  Y _ := BI.emp
  Z c := StableHlo.held (c.tc : Thread nD τ) (ucRefs τ sig \ arrRefs (pcs p).spec) (W c)
  hentry c := by
    rw [ownSems0_none, prefHeld_of_none _ hK,
      StableHlo.held_sub_split (c.tc : Thread nD τ) (arrRefs_sub_ucRefs (τ := τ) (pcs p).spec kit.win.arr_unscoped) (W c),
      rel_arrays_held pcs a rdats p kit c (hshare c) (rdats p c).A (W c) (hW c)]
    iintro ⟨⟨⟨Ha, Hr⟩, HO⟩, -, -⟩
    imodintro
    isplitl [Ha]; · iexact Ha
    isplitr; · iempintro
    isplitl [HO]
    · unfold RDat.owesAt owesWithin RDat.bound
      rw [howed c 0, hrec c]
      icases HO with ⟨%Wd, HO⟩; iexists Wd; isplitr; · ipureintro; exact fun _ _ => Or.inl trivial
      iexact HO
    isplitr; · iempintro
    iexact Hr
  hin c := by
    rw [hΦ c]
    iintro ⟨-, -, Hr⟩
    iexact Hr
  hout c := by
    rw [hΦ c, ownSems0_none]
    iintro Hr
    isplitr; · iempintro
    isplitr; · iempintro
    iexact Hr
  hexit c := by
    iintro ⟨Ha, HO, -, Hr⟩
    ihave Ha := (arraysAt_some (rdats p c) (pin pcs a p).N) $$ Ha
    icases Ha with ⟨%A, %hA, Ha⟩
    imodintro
    rw [StableHlo.held_sub_split (c.tc : Thread nD τ) (arrRefs_sub_ucRefs (τ := τ) (pcs p).spec kit.win.arr_unscoped) (W' c),
      StableHlo.held_congr (c.tc : Thread nD τ) (S := ucRefs τ sig \ arrRefs (pcs p).spec) (hoff c),
      ← rel_arrays_held pcs a rdats p kit c (hshare c) A (W' c) (hexact c A hA)]
    isplitl [Ha Hr]
    · isplitl [Ha]; · iexact Ha
      iexact Hr
    unfold RDat.owesAt owesWithin
    rw [howed c (Fin.last _)]
    icases HO with ⟨%Wd, -, HO⟩; iexists Wd; iexact HO

end Cert.KernelIdeal.Hand

end
-- ==== Proof.K.Common.lean ====
/-
  What the proofs about the kernel's run share: the logic's model, the memory at launch.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Regions
public import Idealize.ShloMosaic.PureOps.Ideal
public import proofs.«01_k».proof.Proof.RelRegion
public import Idealize.ShloMosaic.Lib.Tactic
public import Idealize.ShloMosaic.Lib.Pipeline.FrameBody

@[expose] public section

noncomputable section

namespace Cert.KernelIdeal.Hand

open Cert.KernelIdeal Cert.KernelIdeal.Gen
open Idealize.ShloMosaic Idealize.ShloMosaic.TcCoe
open Idealize.SL Idealize.SL.RA
open Idealize.ShloMosaic.Rounds

/-- The user algebra: the pipelines' staging cells, and nothing more. -/
abbrev UR : Type := URounds (GSem nD τ sig) Unit

/-- The pipelines' cells as a part of the model. -/
def EP : Emb (URounds (GSem nD τ sig) Unit) (MT nD τ sig Unit (Elt Ideal) ℕ UR ℕ) :=
  (Emb.refl _).trans (uEmb (nD := nD) (τ := τ) (sig := sig) (Ix := Unit) (Val := Elt Ideal) (Name := ℕ) (U := UR) (Lvl := ℕ)).toEmb

instance EP_landsIn : EP.LandsIn (upEmb : UEmb _ (MT nD τ sig Unit (Elt Ideal) ℕ UR ℕ)) := by unfold EP; infer_instance

/-- Calls are bounded by natural numbers. -/
abbrev 𝒱₀ : Variants := Variants.nat

end Cert.KernelIdeal.Hand

end
-- ==== Proof.K.Decode.lean ====
/-
  The first kernel's body: at one grid point it reads a block of 2000 anchors and writes one row of each of its two
  results, leaving the other rows as it found them.
-/
module

public import proofs.«01_k».proof.Proof.K.Common
public import Idealize.ShloMosaic.Lib.VecWindow
public import Idealize.ShloMosaic.Lib.Pipeline.ValueKit

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ UR ℕ

/-- The first result's staging contents after a point: its row written, the other rows kept. -/
def putM (i : grid0.Coords) (Y0 : S1x2000x85.Idx → Elt Ideal .f32) (Y : S1x10x2000.Idx → Elt Ideal .f32) :
    S1x10x2000.Idx → Elt Ideal .f32 :=
  VecWindow.put Y (k0_off1 i) S1x1x2000.size (k0_pay3 (F := Ideal) Y0)
/-- The second result's staging contents after a point. -/
def putB (i : grid0.Coords) (Y0 : S1x2000x85.Idx → Elt Ideal .f32) (Y1 Y2 Y3 : S2000x2.Idx → Elt Ideal .f32)
    (Y : S1x10x2000x4.Idx → Elt Ideal .f32) : S1x10x2000x4.Idx → Elt Ideal .f32 :=
  VecWindow.put Y (k0_off2 i) S1x1x2000x4.size (k0_pay1 (F := Ideal) (k0_pay4 Y0 Y1 Y3 Y2))

/-- `putM`, unfolded. -/
theorem putM_def (i : grid0.Coords) (Y0 : S1x2000x85.Idx → Elt Ideal .f32) (Y : S1x10x2000.Idx → Elt Ideal .f32) :
    putM i Y0 Y = VecWindow.put Y (k0_off1 i) S1x1x2000.size (k0_pay3 (F := Ideal) Y0) := rfl
/-- `putB`, unfolded. -/
theorem putB_def (i : grid0.Coords) (Y0 : S1x2000x85.Idx → Elt Ideal .f32) (Y1 Y2 Y3 : S2000x2.Idx → Elt Ideal .f32)
    (Y : S1x10x2000x4.Idx → Elt Ideal .f32) :
    putB i Y0 Y1 Y2 Y3 Y = VecWindow.put Y (k0_off2 i) S1x1x2000x4.size (k0_pay1 (F := Ideal) (k0_pay4 Y0 Y1 Y3 Y2)) := rfl

/-- A load of a whole block is the block. -/
theorem ld3_zero (X : S1x2000x85.Idx → Elt Ideal .f32) :
    View.ld X (Rect.unit (s := S1x2000x85) ![0, 0, 0] S1x2000x85.size inb_S1x2000x85_S1x2000x85_0_0_0) = X :=
  View.ld_unit_zero (funext fun a => by fin_cases a <;> rfl) _ X
/-- A load of a whole block is the block. -/
theorem ld2_zero (X : S2000x2.Idx → Elt Ideal .f32) :
    View.ld X (Rect.unit (s := S2000x2) ![0, 0] S2000x2.size inb_S2000x2_S2000x2_0_0) = X :=
  View.ld_unit_zero (funext fun a => by fin_cases a <;> rfl) _ X

/-- The first kernel's body, run at a point on any staging buffers. -/
theorem decode_run (c : Dev nD) (i : grid0.Coords)
    (arg2 : Memref sig .tc .vmem S1x2000x85 .f32) (harg2 : arg2.IsWhole) (arg3 : Memref sig .tc .vmem S2000x2 .f32) (harg3 : arg3.IsWhole)
    (arg4 : Memref sig .tc .vmem S2000x2 .f32) (harg4 : arg4.IsWhole) (arg5 : Memref sig .tc .vmem S2000x2 .f32) (harg5 : arg5.IsWhole)
    (arg6 : Memref sig .tc .vmem S1x10x2000 .f32) (harg6 : arg6.IsWhole) (arg7 : Memref sig .tc .vmem S1x10x2000x4 .f32) (harg7 : arg7.IsWhole)
    (Y0 : S1x2000x85.Idx → Elt Ideal .f32) (Y1 Y2 Y3 : S2000x2.Idx → Elt Ideal .f32) (Y4 : S1x10x2000.Idx → Elt Ideal .f32)
    (Y5 : S1x10x2000x4.Idx → Elt Ideal .f32) (K : PUnit → sProp 𝕄) :
    iprop(owns (c : Thread nD τ) arg2 fullShare Y0 ∗ owns (c : Thread nD τ) arg3 fullShare Y1 ∗ owns (c : Thread nD τ) arg4 fullShare Y2
        ∗ owns (c : Thread nD τ) arg5 fullShare Y3 ∗ owns (c : Thread nD τ) arg6 fullShare Y4 ∗ owns (c : Thread nD τ) arg7 fullShare Y5
        ∗ (iprop(owns (c : Thread nD τ) arg2 fullShare Y0 ∗ owns (c : Thread nD τ) arg3 fullShare Y1 ∗ owns (c : Thread nD τ) arg4 fullShare Y2
          ∗ owns (c : Thread nD τ) arg5 fullShare Y3 ∗ owns (c : Thread nD τ) arg6 fullShare (putM i Y0 Y4) ∗ owns (c : Thread nD τ) arg7 fullShare (putB i Y0 Y1 Y2 Y3 Y5)) -∗ K ⟨⟩))
      ⊢ wp frame (wpE (defs₀ (F := Ideal)) 𝒱₀ c none) Set.univ
          (cc0__decode_max_kernel i arg2 harg2 arg3 harg3 arg4 harg4 arg5 harg5 arg6 harg6 arg7 harg7) K := by
  simp only [cc0__decode_max_kernel_eq_skeleton]; unfold cc0__decode_max_kernel_skel
  simp only [k0_part1_eq_skeleton]; unfold k0_part1_skel
  unfold owns
  iintro ⟨⟨%f0, %h0, H0⟩, ⟨%f1, %h1, H1⟩, ⟨%f2, %h2, H2⟩, ⟨%f3, %h3, H3⟩, ⟨%f4, %h4, H4⟩, ⟨%f5, %h5, H5⟩, Hk⟩
  sl_exec
  sl_step
  iapply Hk
  isplitl [H0]
  · iexists _; isplitr; swap; · iexact H0
    ipureintro; exact h0
  isplitl [H1]
  · iexists _; isplitr; swap; · iexact H1
    ipureintro; exact h1
  isplitl [H2]
  · iexists _; isplitr; swap; · iexact H2
    ipureintro; exact h2
  isplitl [H3]
  · iexists _; isplitr; swap; · iexact H3
    ipureintro; exact h3
  isplitl [H4]
  · iexists _; isplitr; swap; · iexact H4
    ipureintro
    rw [View.read_writes_cons_put _ _ _ _ _ rfl, View.writes_nil, View.readAt_eq_ld, h4, h0, ld3_zero]
    exact (putM_def i Y0 Y4).symm
  iexists _; isplitr; swap; · iexact H5
  ipureintro
  rw [View.read_writes_cons_put _ _ _ _ _ rfl, View.writes_nil]
  rw [View.readAt_eq_ld, View.readAt_eq_ld, View.readAt_eq_ld, View.readAt_eq_ld, h0, h1, h2, h3, h5, ld3_zero, ld2_zero, ld2_zero,
    ld2_zero]
  exact (putB_def i Y0 Y1 Y2 Y3 Y5).symm

end Cert.KernelIdeal.Hand

end
-- ==== Proof.K.Region0.lean ====
/-
  The first call as a region: what each point finds in its input buffers, and what it leaves in the result buffers.
-/
module

public import proofs.«01_k».proof.Proof.K.Decode

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg)

local notation "𝕄" => MT nD τ sig Unit (Elt Ideal) ℕ UR ℕ

variable (V : Dev nD → Valuation τ sig (Elt Ideal))

/-- The block an input window reads at a point, as the window's view reads it. -/
abbrev iblk0 (c : Dev nD) (w : Fin (cfg0 (F := Ideal)).W) (t : Fin (cfg0 (F := Ideal)).N) :=
  (((cfg0 (F := Ideal)).win w).blk t).view.read (Elt Ideal) (V c (Proc.devRef .tc (Pipeline.arrRef spec0 w)))

/-- The first call's relational data: inputs are left as found, each result's buffer gets one row. -/
def rd0 (c : Dev nD) : RDat τ (Elt Ideal) Unit ℕ UR ℕ (cfg0 (F := Ideal)) c where
  A := fun w => V c (Proc.devRef .tc (Pipeline.arrRef spec0 w))
  after := fun w => match w with
    | ⟨0, _⟩ => fun _ Y X => X = Y
    | ⟨1, _⟩ => fun _ Y X => X = Y
    | ⟨2, _⟩ => fun _ Y X => X = Y
    | ⟨3, _⟩ => fun _ Y X => X = Y
    | ⟨4, _⟩ => fun t Y X => X = putM (grid0.coords t) (iblk0 V c 0 t) Y
    | ⟨5, _⟩ => fun t Y X => X = putB (grid0.coords t) (iblk0 V c 0 t) (iblk0 V c 1 t) (iblk0 V c 2 t) (iblk0 V c 3 t) Y
    | ⟨n + 6, h⟩ => absurd (show n + 6 < 6 from h) (by omega)
  Φ := fun _ => Pipeline.scopedRest spec0 c
  q := fun _ => fullShare
  owed := fun _ => 0

/-- What the first call's body is run as at a point. -/
theorem defs₀_row0 (t : Fin (cfg0 (F := Ideal)).N) :
    defs₀ (F := Ideal) .tc (cfg0 (F := Ideal)).body ((cfg0 (F := Ideal)).bodyArgs t ((cfg0 (F := Ideal)).slots t)) = bodyAt0 (F := Ideal) t := by
  unfold defs₀; rw [Defs.onTc_tc]

/-- A fetched input buffer holds the window's block. -/
theorem finds0 (c : Dev nD) (w : Fin (cfg0 (F := Ideal)).W) (hw : w.val < 4) (t : Fin (cfg0 (F := Ideal)).N) (Y)
    (h : (rd0 V c).Finds w t Y) : ∀ y, Y (((cfg0 (F := Ideal)).win w).xinj _ y) = iblk0 V c w t y := by
  have hf : ((cfg0 (F := Ideal)).win w).fetch t = true := by
    match w with
    | ⟨0, _⟩ => exact fetch0_0 t
    | ⟨1, _⟩ => exact fetch0_1 t
    | ⟨2, _⟩ => exact fetch0_2 t
    | ⟨3, _⟩ => exact fetch0_3 t
    | ⟨n + 4, _⟩ => exact absurd hw (by simp)
  obtain ⟨d, rfl⟩ := ((rd0 V c).finds_of_fetch hf _).mp h
  intro y
  exact congrFun ((((cfg0 (F := Ideal)).win w).cut_fill _ _ _)) y

/-- The first call's body meets its relation at every point. -/
theorem body0 (c : Dev nD) : (rd0 V c).BodyObligation (defs₀ (F := Ideal)) 𝒱₀ () Set.univ := by
  intro t Y hY
  rw [bigSep_W0, bigSep_W0, defs₀_row0, show (rd0 V c).Φ t.succ = (rd0 V c).Φ t.castSucc from rfl,
    show (rd0 V c).owesAt () t.succ = (rd0 V c).owesAt () t.castSucc from rfl]
  have h0 : Y 0 = iblk0 V c 0 t := funext (finds0 V c 0 (by decide) t _ (hY 0))
  have h1 : Y 1 = iblk0 V c 1 t := funext (finds0 V c 1 (by decide) t _ (hY 1))
  have h2 : Y 2 = iblk0 V c 2 t := funext (finds0 V c 2 (by decide) t _ (hY 2))
  have h3 : Y 3 = iblk0 V c 3 t := funext (finds0 V c 3 (by decide) t _ (hY 3))
  iintro ⟨HΦ, Hw, H0, H1, H2, H3, H4, H5⟩
  iapply (decode_run c (grid0.coords t) _ _ _ _ _ _ _ _ _ _ _ _ (Y 0) (Y 1) (Y 2) (Y 3) (Y 4) (Y 5) _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Hw]; · iexact Hw
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; show putM _ (Y 0) _ = _; rw [h0]
  iexists _; isplitr; swap; · iexact H5
  ipureintro; show putB _ (Y 0) (Y 1) (Y 2) (Y 3) _ = _; rw [h0, h1, h2, h3]

end Cert.KernelIdeal.Hand

end
-- ==== Proof.K.Result0.lean ====
/-
  The arrays the first call leaves: every row of its two results, as a function of the blocks it reads.
-/
module

public import proofs.«01_k».proof.Proof.K.Region0
public import Idealize.ShloMosaic.Lib.Pipeline.ArrRel

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA
open Idealize.SL.Sem
open Idealize.ShloMosaic.Pipeline (RDat Cfg)

variable (V : Dev nD → Valuation τ sig (Elt Ideal))

/-- A point's two coordinates: the image and the chunk of anchors. -/
theorem coords0 : ∀ t : Fin grid0.N, (grid0.coords t 0).val = t.val / 10 ∧ (grid0.coords t 1).val = t.val % 10 := by
  decide +kernel

/-- The row that a point writes. -/
theorem off_val : ∀ x : Fin 10, (Scalar.indexCast (BitVec.ofNat 32 x.val)).toNat = x.val := by decide

theorem N0 : (cfg0 (F := Ideal)).N = 160 := N_0

/-- The point that writes row `r` of image `b`. -/
def pt (b : Fin 16) (r : Fin 10) : Fin (cfg0 (F := Ideal)).N := ⟨10 * b.val + r.val, by rw [N0]; omega⟩

/-- The first result's array. -/
def G4 (c : Dev nD) : S16x10x2000.Idx → Elt Ideal .f32 := fun i =>
  k0_pay3 (F := Ideal) (iblk0 V c 0 (pt (i 0) (i 1))) (ix3 (0 : Fin 1) (0 : Fin 1) (i 2))
/-- The second result's array. -/
def G5 (c : Dev nD) : S16x10x2000x4.Idx → Elt Ideal .f32 := fun i =>
  k0_pay1 (F := Ideal) (k0_pay4 (iblk0 V c 0 (pt (i 0) (i 1))) (iblk0 V c 1 (pt (i 0) (i 1))) (iblk0 V c 3 (pt (i 0) (i 1)))
    (iblk0 V c 2 (pt (i 0) (i 1)))) (ix4 (0 : Fin 1) (0 : Fin 1) (i 2) (i 3))

/-- A put row, read at that row. -/
theorem putM_same (t : Fin grid0.N) (Y0 Y) (y : S1x10x2000.Idx) (h : (y 1).val = t.val % 10) :
    putM (grid0.coords t) Y0 Y y = k0_pay3 (F := Ideal) Y0 (ix3 (0 : Fin 1) (0 : Fin 1) (y 2)) := by
  have e := (coords0 t).2
  have o := off_val (grid0.coords t 1)
  unfold putM VecWindow.put
  have h0 : (y 0).val = 0 := by have : (y 0).val < 1 := (y 0).isLt; omega
  have h2 : (y 2).val < 2000 := (y 2).isLt
  rw [dif_pos]
  · congr 1
    funext a; apply Fin.ext
    fin_cases a
    · show (y 0).val - 0 = 0; omega
    · show (y 1).val - (Scalar.indexCast (BitVec.ofNat 32 (grid0.coords t 1).val)).toNat = 0; omega
    · show (y 2).val - 0 = (y 2).val; omega
  · intro a
    fin_cases a
    · show 0 ≤ (y 0).val ∧ (y 0).val < 0 + 1; omega
    · show (Scalar.indexCast (BitVec.ofNat 32 (grid0.coords t 1).val)).toNat ≤ (y 1).val ∧ (y 1).val < (Scalar.indexCast (BitVec.ofNat 32 (grid0.coords t 1).val)).toNat + 1
      omega
    · show 0 ≤ (y 2).val ∧ (y 2).val < 0 + 2000; omega

/-- A put row, read at another row. -/
theorem putM_other (t : Fin grid0.N) (Y0 Y) (y : S1x10x2000.Idx) (h : (y 1).val ≠ t.val % 10) :
    putM (grid0.coords t) Y0 Y y = Y y := by
  have e := (coords0 t).2
  have o := off_val (grid0.coords t 1)
  unfold putM VecWindow.put
  rw [dif_neg]
  intro hc
  have : (Scalar.indexCast (BitVec.ofNat 32 (grid0.coords t 1).val)).toNat ≤ (y 1).val ∧ (y 1).val < (Scalar.indexCast (BitVec.ofNat 32 (grid0.coords t 1).val)).toNat + 1 := hc 1
  omega

/-- The rows of the first result written so far hold their values. -/
theorem leaves4 (c : Dev nD) : ∀ n (t : Fin (cfg0 (F := Ideal)).N), t.val = n → ∀ X : S1x10x2000.Idx → Elt Ideal .f32, (rd0 V c).Leaves 4 t X →
    ∀ (b : Fin 16), b.val = t.val / 10 → ∀ y : S1x10x2000.Idx, (y 1).val ≤ t.val % 10 →
      X y = k0_pay3 (F := Ideal) (iblk0 V c 0 (pt b (y 1))) (ix3 (0 : Fin 1) (0 : Fin 1) (y 2)) := by
  intro n
  induction n with
  | zero =>
    intro t ht X ⟨Y, _, hX⟩ b hb y hy
    have hX : X = putM (grid0.coords t) (iblk0 V c 0 t) Y := hX
    rw [hX, putM_same t _ _ y (by omega)]
    have : t = pt b (y 1) := Fin.ext (by show t.val = 10 * b.val + (y 1).val; omega)
    rw [← this]
  | succ n ih =>
    intro t ht X ⟨Y, hY, hX⟩ b hb y hy
    have hX : X = putM (grid0.coords t) (iblk0 V c 0 t) Y := hX
    rw [hX]
    by_cases hr : (y 1).val = t.val % 10
    · rw [putM_same t _ _ y hr]
      have : t = pt b (y 1) := Fin.ext (by show t.val = 10 * b.val + (y 1).val; omega)
      rw [← this]
    · rw [putM_other t _ _ y hr]
      have hlt : t.val - 1 < (cfg0 (F := Ideal)).N := Nat.lt_of_le_of_lt (Nat.sub_le _ _) t.isLt
      rcases ((rd0 V c).finds_of_pos (w := 4) rfl (by omega) Y).mp hY with hf | hl
      · have := (flush0_4 (F := Ideal) ⟨t.val - 1, hlt⟩).mp hf
        have : (t.val - 1) % 10 = 9 := this
        omega
      · exact ih ⟨t.val - 1, hlt⟩ (by show t.val - 1 = n; omega) Y hl b (by show b.val = (t.val - 1) / 10; omega) y
          (by show (y 1).val ≤ (t.val - 1) % 10; omega)

/-- A put row of boxes, read at that row. -/
theorem putB_same (t : Fin grid0.N) (Y0 Y1 Y2 Y3 Y) (y : S1x10x2000x4.Idx) (h : (y 1).val = t.val % 10) :
    putB (grid0.coords t) Y0 Y1 Y2 Y3 Y y = k0_pay1 (F := Ideal) (k0_pay4 Y0 Y1 Y3 Y2) (ix4 (0 : Fin 1) (0 : Fin 1) (y 2) (y 3)) := by
  have e := (coords0 t).2
  have o := off_val (grid0.coords t 1)
  unfold putB VecWindow.put
  have h0 : (y 0).val = 0 := by have : (y 0).val < 1 := (y 0).isLt; omega
  have h2 : (y 2).val < 2000 := (y 2).isLt
  have h3 : (y 3).val < 4 := (y 3).isLt
  rw [dif_pos]
  · congr 1
    funext a; apply Fin.ext
    fin_cases a
    · show (y 0).val - 0 = 0; omega
    · show (y 1).val - (Scalar.indexCast (BitVec.ofNat 32 (grid0.coords t 1).val)).toNat = 0; omega
    · show (y 2).val - 0 = (y 2).val; omega
    · show (y 3).val - 0 = (y 3).val; omega
  · intro a
    fin_cases a
    · show 0 ≤ (y 0).val ∧ (y 0).val < 0 + 1; omega
    · show (Scalar.indexCast (BitVec.ofNat 32 (grid0.coords t 1).val)).toNat ≤ (y 1).val ∧ (y 1).val < (Scalar.indexCast (BitVec.ofNat 32 (grid0.coords t 1).val)).toNat + 1
      omega
    · show 0 ≤ (y 2).val ∧ (y 2).val < 0 + 2000; omega
    · show 0 ≤ (y 3).val ∧ (y 3).val < 0 + 4; omega

/-- A put row of boxes, read at another row. -/
theorem putB_other (t : Fin grid0.N) (Y0 Y1 Y2 Y3 Y) (y : S1x10x2000x4.Idx) (h : (y 1).val ≠ t.val % 10) :
    putB (grid0.coords t) Y0 Y1 Y2 Y3 Y y = Y y := by
  have e := (coords0 t).2
  have o := off_val (grid0.coords t 1)
  unfold putB VecWindow.put
  rw [dif_neg]
  intro hc
  have : (Scalar.indexCast (BitVec.ofNat 32 (grid0.coords t 1).val)).toNat ≤ (y 1).val ∧ (y 1).val < (Scalar.indexCast (BitVec.ofNat 32 (grid0.coords t 1).val)).toNat + 1 := hc 1
  omega

/-- The rows of the second result written so far hold their values. -/
theorem leaves5 (c : Dev nD) : ∀ n (t : Fin (cfg0 (F := Ideal)).N), t.val = n → ∀ X : S1x10x2000x4.Idx → Elt Ideal .f32, (rd0 V c).Leaves 5 t X →
    ∀ (b : Fin 16), b.val = t.val / 10 → ∀ y : S1x10x2000x4.Idx, (y 1).val ≤ t.val % 10 →
      X y = k0_pay1 (F := Ideal) (k0_pay4 (iblk0 V c 0 (pt b (y 1))) (iblk0 V c 1 (pt b (y 1))) (iblk0 V c 3 (pt b (y 1)))
        (iblk0 V c 2 (pt b (y 1)))) (ix4 (0 : Fin 1) (0 : Fin 1) (y 2) (y 3)) := by
  intro n
  induction n with
  | zero =>
    intro t ht X ⟨Y, _, hX⟩ b hb y hy
    have hX : X = putB (grid0.coords t) (iblk0 V c 0 t) (iblk0 V c 1 t) (iblk0 V c 2 t) (iblk0 V c 3 t) Y := hX
    rw [hX, putB_same t _ _ _ _ _ y (by omega)]
    have : t = pt b (y 1) := Fin.ext (by show t.val = 10 * b.val + (y 1).val; omega)
    rw [← this]
  | succ n ih =>
    intro t ht X ⟨Y, hY, hX⟩ b hb y hy
    have hX : X = putB (grid0.coords t) (iblk0 V c 0 t) (iblk0 V c 1 t) (iblk0 V c 2 t) (iblk0 V c 3 t) Y := hX
    rw [hX]
    by_cases hr : (y 1).val = t.val % 10
    · rw [putB_same t _ _ _ _ _ y hr]
      have : t = pt b (y 1) := Fin.ext (by show t.val = 10 * b.val + (y 1).val; omega)
      rw [← this]
    · rw [putB_other t _ _ _ _ _ y hr]
      have hlt : t.val - 1 < (cfg0 (F := Ideal)).N := Nat.lt_of_le_of_lt (Nat.sub_le _ _) t.isLt
      rcases ((rd0 V c).finds_of_pos (w := 5) rfl (by omega) Y).mp hY with hf | hl
      · have := (flush0_5 (F := Ideal) ⟨t.val - 1, hlt⟩).mp hf
        have : (t.val - 1) % 10 = 9 := this
        omega
      · exact ih ⟨t.val - 1, hlt⟩ (by show t.val - 1 = n; omega) Y hl b (by show b.val = (t.val - 1) / 10; omega) y
          (by show (y 1).val ≤ (t.val - 1) % 10; omega)

/-- The blocks the results are written back from: an image each. -/
theorem idx4 : ∀ t : Fin grid0.N, win0_4.index t = ![t.val / 10, 0, 0] := by decide +kernel
/-- The blocks the results are written back from: an image each. -/
theorem idx5 : ∀ t : Fin grid0.N, win0_5.index t = ![t.val / 10, 0, 0, 0] := by decide +kernel

/-- After the first call its first result is `G4`. -/
theorem exact4 (c : Dev nD) (A : (w : Fin (cfg0 (F := Ideal)).W) → Buf (Elt Ideal) (((cfg0 (F := Ideal)).win w).arr.view.loc (c.tc : Thread nD τ)))
    (h : ∀ w, (rd0 V c).ArrAt w (cfg0 (F := Ideal)).N (A w)) : A 4 = G4 V c := by
  obtain ⟨after, hL, hA⟩ := RDat.ArrAt.exists_exact_all h
  rw [hA 4]
  refine Pipeline.Dat.arrAt_eq_of_covers _ 4 _ (by decide +kernel) fun t hf y => ?_
  have hm := (flush0_4 (F := Ideal) t).mp hf
  have hl := leaves4 V c t.val t rfl _ (hL 4 t t.isLt hf) ⟨t.val / 10, by have := t.isLt; have := N0; omega⟩ rfl y
    (by have : (y 1).val < 10 := (y 1).isLt; omega)
  blk_simp [idx4 t]
  have e : (win0_4.blk t).view.emb y = ix3 (⟨t.val / 10, by have := t.isLt; have := N0; omega⟩ : Fin 16) (y 1) (y 2) := by
    blk_ext [idx4 t]
  rw [e]
  exact hl

/-- After the first call its second result is `G5`. -/
theorem exact5 (c : Dev nD) (A : (w : Fin (cfg0 (F := Ideal)).W) → Buf (Elt Ideal) (((cfg0 (F := Ideal)).win w).arr.view.loc (c.tc : Thread nD τ)))
    (h : ∀ w, (rd0 V c).ArrAt w (cfg0 (F := Ideal)).N (A w)) : A 5 = G5 V c := by
  obtain ⟨after, hL, hA⟩ := RDat.ArrAt.exists_exact_all h
  rw [hA 5]
  refine Pipeline.Dat.arrAt_eq_of_covers _ 5 _ (by decide +kernel) fun t hf y => ?_
  have hm := (flush0_5 (F := Ideal) t).mp hf
  have hl := leaves5 V c t.val t rfl _ (hL 5 t t.isLt hf) ⟨t.val / 10, by have := t.isLt; have := N0; omega⟩ rfl y
    (by have : (y 1).val < 10 := (y 1).isLt; omega)
  blk_simp [idx5 t]
  have e : (win0_5.blk t).view.emb y = ix4 (⟨t.val / 10, by have := t.isLt; have := N0; omega⟩ : Fin 16) (y 1) (y 2) (y 3) := by
    blk_ext [idx5 t]
  rw [e]
  exact hl

/-- The first call leaves its inputs as they were. -/
theorem exact_in (c : Dev nD) (A : (w : Fin (cfg0 (F := Ideal)).W) → Buf (Elt Ideal) (((cfg0 (F := Ideal)).win w).arr.view.loc (c.tc : Thread nD τ)))
    (h : ∀ w, (rd0 V c).ArrAt w (cfg0 (F := Ideal)).N (A w)) (w : Fin (cfg0 (F := Ideal)).W) (hw : ((cfg0 (F := Ideal)).win w).isOut = false) :
    A w = V c (Proc.devRef .tc (Pipeline.arrRef spec0 w)) := by
  have := h w
  rw [RDat.ArrAt_in _ _ hw] at this
  exact this

end Cert.KernelIdeal.Hand

end
-- ==== Proof.Sweep.lean ====
/-
  Suppression as a sweep: one sweep over all boxes at once, its iteration from the starting row, and the one row it settles at.
-/
module

public import Idealize.ShloMosaic.PureOps.Ideal

@[expose] public section

noncomputable section

namespace Cert.Nms

open Idealize.ShloMosaic

variable {n : ℕ}

/-- One sweep: an entry is dropped when the kept entries that suppress it weigh more than `h`, else it is as at the start. -/
def sweep (h : EReal) (v : Fin n → EReal) (S : Fin n → Fin n → EReal) (K : Fin n → EReal) : Fin n → EReal := fun j =>
  if h < ∑ i, K i * S i j then 0 else v j

variable {h : EReal} {v : Fin n → EReal} {S : Fin n → Fin n → EReal}

/-- Suppression only from earlier entries: a sweep of two rows that agree below `m` agrees below `m + 1`. -/
theorem sweep_agree (hS : ∀ i j : Fin n, ¬ i < j → S i j = 0) {K K' : Fin n → EReal} {m : ℕ}
    (hK : ∀ i : Fin n, i.val < m → K i = K' i) (i : Fin n) (hi : i.val < m + 1) :
    sweep h v S K i = sweep h v S K' i := by
  have : ∑ a, K a * S a i = ∑ a, K' a * S a i := Finset.sum_congr rfl fun a _ => by
    by_cases ha : a < i
    · rw [hK a (by have : a.val < i.val := ha; omega)]
    · rw [hS a i ha, mul_zero, mul_zero]
  unfold sweep; rw [this]

/-- Any two rows agree below `m` after `m` sweeps. -/
theorem iter_agree (hS : ∀ i j : Fin n, ¬ i < j → S i j = 0) (K K' : Fin n → EReal) (m : ℕ) (i : Fin n) (hi : i.val < m) :
    (sweep h v S)^[m] K i = (sweep h v S)^[m] K' i := by
  induction m generalizing i with
  | zero => omega
  | succ m ih => rw [Function.iterate_succ_apply', Function.iterate_succ_apply']; exact sweep_agree hS ih i hi

/-- After as many sweeps as there are entries, another sweep changes nothing. -/
theorem iter_settled (hS : ∀ i j : Fin n, ¬ i < j → S i j = 0) (K : Fin n → EReal) (m : ℕ) (hm : n ≤ m) :
    sweep h v S ((sweep h v S)^[m] K) = (sweep h v S)^[m] K := by
  rw [← Function.iterate_succ_apply' (sweep h v S), Function.iterate_succ_apply]
  funext i
  exact iter_agree hS _ _ m i (by omega)

/-- A row that a sweep leaves alone is the row the sweeps settle at. -/
theorem fixed_unique (hS : ∀ i j : Fin n, ¬ i < j → S i j = 0) {K K' : Fin n → EReal} (hK : sweep h v S K = K)
    (hK' : sweep h v S K' = K') : K = K' := by
  have a := Function.iterate_fixed hK n
  have b := Function.iterate_fixed hK' n
  rw [← a, ← b]
  funext i
  exact iter_agree hS K K' n i i.isLt

/-- Enough sweeps of any row reach a row that a sweep leaves alone. -/
theorem iter_fixed (hS : ∀ i j : Fin n, ¬ i < j → S i j = 0) (K : Fin n → EReal) {K' : Fin n → EReal} (hK' : sweep h v S K' = K') (m : ℕ) (hm : n ≤ m) :
    (sweep h v S)^[m] K = K' := by
  have b := Function.iterate_fixed hK' m
  rw [← b]
  funext i
  exact iter_agree hS K K' m i (by omega)

/-- Greedy suppression: an entry is kept if it starts valid and no earlier kept entry suppresses it. -/
def keep (valid : Fin n → Prop) (sup : Fin n → Fin n → Prop) (j : Fin n) : Prop :=
  valid j ∧ ∀ i : Fin n, i < j → keep valid sup i → ¬ sup i j
termination_by j.val

open Classical in
/-- The row of a greedy suppression is left alone by a sweep: the weights are counts of kept suppressors. -/
theorem keep_fixed (h0 : 0 < h) (h1 : h < 1) (valid : Fin n → Prop) (sup : Fin n → Fin n → Prop)
    (hv : ∀ j, v j = if valid j then 1 else 0) (hS : ∀ i j, S i j = if i < j ∧ sup i j then 1 else 0) :
    sweep h v S (fun j => if keep valid sup j then 1 else 0) = fun j => if keep valid sup j then 1 else 0 := by
  funext j
  unfold sweep
  have hterm : ∀ i : Fin n, (if keep valid sup i then (1 : EReal) else 0) * S i j = if keep valid sup i ∧ i < j ∧ sup i j then 1 else 0 := by
    intro i
    rw [hS]
    by_cases a : keep valid sup i <;> by_cases b : i < j ∧ sup i j <;> simp [a, b]
  simp only [hterm]
  by_cases he : ∃ i : Fin n, keep valid sup i ∧ i < j ∧ sup i j
  · obtain ⟨i, hi⟩ := he
    have hge : (1 : EReal) ≤ ∑ i, if keep valid sup i ∧ i < j ∧ sup i j then (1 : EReal) else 0 := by
      have := Finset.single_le_sum (f := fun i => if keep valid sup i ∧ i < j ∧ sup i j then (1 : EReal) else 0)
        (fun i _ => by split <;> simp) (Finset.mem_univ i)
      rwa [if_pos hi] at this
    rw [if_pos (lt_of_lt_of_le h1 hge), if_neg]
    rw [keep]
    rintro ⟨_, hk⟩
    exact hk i hi.2.1 hi.1 hi.2.2
  · have hz : (∑ i, if keep valid sup i ∧ i < j ∧ sup i j then (1 : EReal) else 0) = 0 :=
      Finset.sum_eq_zero fun i _ => if_neg fun hi => he ⟨i, hi⟩
    rw [hz, if_neg (not_lt.mpr h0.le), hv]
    have : keep valid sup j ↔ valid j := by
      rw [keep]
      exact ⟨fun hk => hk.1, fun hk => ⟨hk, fun i hi hki hs => he ⟨i, hki, hi, hs⟩⟩⟩
    simp only [this]

/-- The state of the one-by-one loop after `m` steps: kept so far unless an earlier kept entry among the first `m` suppresses. -/
def upto (valid : Fin n → Prop) (sup : Fin n → Fin n → Prop) (m : ℕ) (j : Fin n) : Prop :=
  valid j ∧ ∀ i : Fin n, i < j → i.val < m → keep valid sup i → ¬ sup i j

/-- Below `m` the loop's state after `m` steps is settled. -/
theorem upto_keep (valid : Fin n → Prop) (sup : Fin n → Fin n → Prop) (m : ℕ) (j : Fin n) (hj : j.val ≤ m) :
    upto valid sup m j ↔ keep valid sup j := by
  rw [keep]; unfold upto
  exact ⟨fun ⟨a, b⟩ => ⟨a, fun i hi => b i hi (by have : i.val < j.val := hi; omega)⟩, fun ⟨a, b⟩ => ⟨a, fun i hi _ => b i hi⟩⟩

/-- Step `m` of the loop: the entries that box `m`, if kept, suppresses are dropped. -/
theorem upto_succ (valid : Fin n → Prop) (sup : Fin n → Fin n → Prop) (m : Fin n) (j : Fin n) :
    upto valid sup (m.val + 1) j ↔
      (upto valid sup m.val j ∧ ¬ (upto valid sup m.val m ∧ m < j ∧ sup m j)) := by
  rw [upto_keep valid sup m.val m le_rfl]
  unfold upto
  constructor
  · rintro ⟨a, b⟩
    refine ⟨⟨a, fun i hi hm => b i hi (by omega)⟩, ?_⟩
    rintro ⟨hk, hmj, hs⟩
    exact b m hmj (by omega) hk hs
  · rintro ⟨⟨a, b⟩, c⟩
    refine ⟨a, fun i hi hm hk hs => ?_⟩
    rcases Nat.lt_succ_iff_lt_or_eq.mp hm with hlt | heq
    · exact b i hi hlt hk hs
    · have : i = m := Fin.ext heq
      subst this
      exact c ⟨hk, hi, hs⟩

/-- The loop starts at the valid entries. -/
theorem upto_zero (valid : Fin n → Prop) (sup : Fin n → Fin n → Prop) (j : Fin n) : upto valid sup 0 j ↔ valid j := by
  unfold upto
  exact ⟨fun a => a.1, fun a => ⟨a, fun i _ h => absurd h (Nat.not_lt_zero _)⟩⟩

end Cert.Nms

end
-- ==== Proof.K.NmsLoop.lean ====
/-
  The second kernel's loop: it sweeps the row of boxes until a sweep changes nothing.
-/
module

public import proofs.«01_k».proof.Proof.K.Common
public import proofs.«01_k».proof.Proof.Sweep
public import Idealize.ShloMosaic.Lib.Pointwise
public import Idealize.ShloMosaic.Lib.VecWindow
public import Idealize.ShloMosaic.Lib.Pipeline.ValueKit

@[expose] public section

set_option maxRecDepth 16384

noncomputable section

namespace Cert.KernelIdeal.Hand

open Cert.KernelIdeal Cert.KernelIdeal.Gen Cert.Nms
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ UR ℕ

/-- One half, as the kernel's literal. -/
abbrev half : EReal := Ideal.ofBits .f32 0x3F000000#32

/-- A row of the kernel as a function of the box. -/
abbrev rowOf (K : FVec Ideal S1x1024 .f32) : Fin 1024 → EReal := fun j => K (ix2 (0 : Fin 1) j)
/-- The scratch matrix as a function of two boxes. -/
abbrev matOf (S : FVec Ideal S1024x1024 .f32) : Fin 1024 → Fin 1024 → EReal := fun i j => S (ix2 i j)

/-- The loop's step is a sweep. -/
theorem pay4_row (v K : FVec Ideal S1x1024 .f32) (S : FVec Ideal S1024x1024 .f32) :
    rowOf (k1_pay4 v K S) = sweep half (rowOf v) (matOf S) (rowOf K) := by
  funext j
  unfold sweep rowOf
  pointwise [k1_pay4]

/-- Rows are determined by their entries. -/
theorem row_ext {K K' : FVec Ideal S1x1024 .f32} (h : rowOf K = rowOf K') : K = K' := by
  funext j
  have e : j = ix2 (0 : Fin 1) (j 1) := by
    funext a; apply Fin.ext
    fin_cases a
    · have : (j 0).val < 1 := (j 0).isLt
      show (j 0).val = 0; omega
    · rfl
  rw [e]
  exact congrFun h (j 1)

/-- The loop's flag: set when the step changed the row. -/
theorem pay5_flag (v K : FVec Ideal S1x1024 .f32) (S : FVec Ideal S1024x1024 .f32) :
    Scalar.cmpf .ogt (k1_pay5 v K S) (Scalar.ofBits .f32 0x00000000#32 : Ideal .f32) = 1#1 ↔ k1_pay4 v K S ≠ K := by
  have e : Scalar.cmpf .ogt (k1_pay5 v K S) (Scalar.ofBits .f32 0x00000000#32 : Ideal .f32)
      = BitVec.ofBool (decide (0 < Finset.fold max (Ideal.ofBits .f32 0xFF800000#32)
          (fun x : Fin 1 × Fin 1024 => if k1_pay4 v K S (ix2 (0 : Fin 1) x.2) ≠ K (ix2 (0 : Fin 1) x.2) then (1 : EReal) else 0) Finset.univ)) := by
    pointwise [k1_pay5]
  rw [e]
  have hb : ∀ b : Bool, BitVec.ofBool b = 1#1 ↔ b = true := by decide
  rw [hb, decide_eq_true_iff, Finset.lt_fold_max]
  constructor
  · rintro (hneg | ⟨x, _, hx⟩) he
    · have : Ideal.ofBits .f32 0xFF800000#32 = ⊥ := by simp [Ideal.ofBits, Ideal.ieee]
      rw [this] at hneg; exact absurd hneg (by simp)
    · rw [he] at hx; simp at hx
  · intro hne
    right
    by_contra hc
    apply hne
    apply row_ext
    funext j
    by_contra hj
    exact hc ⟨(0, j), Finset.mem_univ _, by rw [if_pos hj]; exact zero_lt_one⟩

variable (v : FVec Ideal S1x1024 .f32) (S : FVec Ideal S1024x1024 .f32)

/-- The row after `n` steps of the loop. -/
def steps (n : ℕ) : FVec Ideal S1x1024 .f32 := (fun K => k1_pay4 v K S)^[n] v

/-- One more step. -/
theorem steps_succ (n : ℕ) : steps v S (n + 1) = k1_pay4 v (steps v S n) S := Function.iterate_succ_apply' _ _ _

/-- The steps are sweeps. -/
theorem steps_row (n : ℕ) : rowOf (steps v S n) = (sweep half (rowOf v) (matOf S))^[n] (rowOf v) := by
  induction n with
  | zero => rfl
  | succ n ih => rw [steps_succ, pay4_row, ih, Function.iterate_succ_apply']

variable (hS : ∀ i j : Fin 1024, ¬ i < j → S (ix2 i j) = 0)
include hS

/-- After 1024 steps the row is settled. -/
theorem steps_settled (n : ℕ) (hn : 1024 ≤ n) : steps v S (n + 1) = steps v S n := by
  apply row_ext
  rw [steps_succ, pay4_row, steps_row]
  exact iter_settled hS _ n hn

/-- A row that a step leaves alone is the settled row. -/
theorem settled_unique (K : FVec Ideal S1x1024 .f32) (hK : k1_pay4 v K S = K) : K = steps v S 1024 := by
  apply row_ext
  refine fixed_unique (h := half) (v := rowOf v) (S := matOf S) hS ?_ ?_
  · rw [← pay4_row, hK]
  · rw [← pay4_row, ← steps_succ, steps_settled v S hS 1024 le_rfl]

omit hS
variable (c : Dev nD)

/-- A load of the whole matrix is the matrix. -/
theorem ldS (X : S1024x1024.Idx → Elt Ideal .f32) :
    View.ld X (Rect.unit (s := S1024x1024) ![0, 0] S1024x1024.size inb_S1024x1024_S1024x1024_0_0) = X :=
  View.ld_unit_zero (funext fun a => by fin_cases a <;> rfl) _ X

/-- The scratch held at the suppression matrix. -/
def heldS : sProp 𝕄 := iprop(((c : Thread nD τ).loc cc1_scratch0) ↦{fullShare} S)

/-- What the loop promises: it returns the settled row, the scratch as it was. -/
def spec : sWPT 𝕄 (FVec Ideal S1x1024 .f32 × BitVec 1) := do
  sWPT.consume (heldS S c)
  let r ← sWPT.arbitrary
  sWPT.assume (r.1 = steps v S 1024)
  sWPT.produce (heldS S c)
  pure r

/-- The promise, unfolded. -/
theorem spec_apply (K : FVec Ideal S1x1024 .f32 × BitVec 1 → sProp 𝕄) :
    spec v S c K = iprop(heldS S c ∗ ∀ r : FVec Ideal S1x1024 .f32 × BitVec 1, ⌜r.1 = steps v S 1024⌝ -∗ (heldS S c -∗ K r)) := rfl

include hS
/-- The loop keeps its promise, entered after `n` steps with the flag telling whether the last of them changed the row. -/
theorem spec_le (E : Set ℕ) (i : grid1.Coords) : ∀ (k n : ℕ) (b : BitVec 1), 1030 ≤ k + n → (b = 1#1 → n ≤ 1024) →
    (b ≠ 1#1 → steps v S (n + 1) = steps v S n) → ∀ K, spec v S c K
      ⊢ wp frame (wpE (defs₀ (F := Ideal)) 𝒱₀ (c : Thread nD τ) (some k)) E
          (defs₀ (F := Ideal) .tc 2 ⟨i, Memref.whole cc1_scratch0, Memref.isWhole_whole _, v, steps v S n, b⟩) K := by
  intro k
  induction k with
  | zero =>
    intro n b hkn hb hb' K
    rw [spec_apply]
    show _ ⊢ wp frame (wpE (defs₀ (F := Ideal)) 𝒱₀ (c : Thread nD τ) (some 0)) E
      (cc1_while1 i (Memref.whole cc1_scratch0) (Memref.isWhole_whole _) v (steps v S n) b) K
    have htest : ¬ b = 1#1 := fun h => by have := hb h; omega
    simp only [cc1_while1_eq_skeleton]; unfold cc1_while1_skel
    simp only [htest, ↓reduceIte, Prog.pure_eq_ret]
    iintro ⟨H, Hk⟩
    rw [wp_ret]; imodintro
    iapply Hk
    · ipureintro; exact settled_unique v S hS _ (by rw [← steps_succ]; exact hb' htest)
    · iexact H
  | succ k ih =>
    intro n b hkn hb hb' K
    rw [spec_apply]
    show _ ⊢ wp frame (wpE (defs₀ (F := Ideal)) 𝒱₀ (c : Thread nD τ) (some (k + 1))) E
      (cc1_while1 i (Memref.whole cc1_scratch0) (Memref.isWhole_whole _) v (steps v S n) b) K
    simp only [cc1_while1_eq_skeleton]; unfold cc1_while1_skel
    by_cases htest : b = 1#1
    · simp only [htest, ↓reduceIte, Prog.lift, Prog.bind_op, Prog.bind_ret, Prog.pure_eq_ret]
      unfold heldS
      iintro ⟨H, Hk⟩
      iapply (wp_load 𝒱₀ (c : Thread nD τ) (some (k + 1)) E (m := Memref.whole cc1_scratch0) (Finset.subset_univ _)) $$ H
      iintro H
      have hload : View.readAt (Elt Ideal) (Memref.whole cc1_scratch0).view (Rect.unit (s := S1024x1024) ![0, 0] S1024x1024.size
          inb_S1024x1024_S1024x1024_0_0).toLoadRect S = S := by
        exact (View.readAt_eq_ld _ _ _).trans (ldS S)
      rw [hload, ← steps_succ]
      have hf := pay5_flag v (steps v S n) S
      rw [← steps_succ] at hf
      have h1 : Scalar.cmpf .ogt (k1_pay5 v (steps v S n) S) (Scalar.ofBits .f32 0x00000000#32 : Ideal .f32) = 1#1 → n + 1 ≤ 1024 := fun h => by
        by_contra hc
        exact hf.mp h (steps_settled v S hS n (by omega))
      have h2 : Scalar.cmpf .ogt (k1_pay5 v (steps v S n) S) (Scalar.ofBits .f32 0x00000000#32 : Ideal .f32) ≠ 1#1 →
          steps v S (n + 1 + 1) = steps v S (n + 1) := fun h => by
        have e : steps v S (n + 1) = steps v S n := by by_contra hc; exact h (hf.mpr hc)
        rw [steps_succ v S (n + 1), e, ← steps_succ, e]
      generalize hflag : Scalar.cmpf .ogt (k1_pay5 v (steps v S n) S) (Scalar.ofBits .f32 0x00000000#32 : Ideal .f32) = b2 at h1 h2 ⊢
      generalize hrow : steps v S (n + 1) = row at h2 ⊢
      have hle := ih (n + 1) b2 (by omega) h1
      rw [hrow] at hle
      iapply (wp_call_spec 𝒱₀ (c : Thread nD τ) (some (k + 1)) E (spec v S c) k (fun u hu => by cases hu; exact Nat.lt_succ_self k)
        (hle h2))
      rw [spec_apply]; unfold heldS
      isplitl [H]
      · iexact H
      iintro %r %hr H
      rw [wp_ret]; imodintro
      iapply Hk
      · ipureintro; exact hr
      · iexact H
    · simp only [htest, ↓reduceIte, Prog.pure_eq_ret]
      iintro ⟨H, Hk⟩
      rw [wp_ret]; imodintro
      iapply Hk
      · ipureintro; exact settled_unique v S hS _ (by rw [← steps_succ]; exact hb' htest)
      · iexact H

end Cert.KernelIdeal.Hand

end
-- ==== Proof.K.Nms.lean ====
/-
  The second kernel's body: at one grid point it fills the scratch with the suppression matrix of one image's boxes and
  stores the row that the sweeps settle at.
-/
module

public import proofs.«01_k».proof.Proof.K.NmsLoop
public import Idealize.ShloMosaic.Lib.Tactic.WordOmega

@[expose] public section

set_option maxRecDepth 16384

noncomputable section

namespace Cert.KernelIdeal.Hand

open Cert.KernelIdeal Cert.KernelIdeal.Gen Cert.Nms
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ UR ℕ

/-- The suppression matrix of the boxes, given once by rows and once by columns. -/
def supM (Y0 : S1x1024x4.Idx → Elt Ideal .f32) (Y1 : S1x4x1024.Idx → Elt Ideal .f32) : FVec Ideal S1024x1024 .f32 :=
  k1_pay1 (F := Ideal) (k1_pay6 (F := Ideal) Y0 Y1) k1_pay7

/-- No box suppresses itself or an earlier one. -/
theorem supM_upper (Y0 Y1) (i j : Fin 1024) (h : ¬ i < j) : supM Y0 Y1 (ix2 i j) = 0 := by
  have e : supM Y0 Y1 (ix2 i j) = Scalar.select (IntOp.andi (k1_pay6 (F := Ideal) Y0 Y1 (ix2 i j)) (k1_pay7 (ix2 i j))) 1 0 := by
    unfold supM
    pointwise [k1_pay1]
  have e7 : k1_pay7 (ix2 i j) = 0#1 := by
    have : k1_pay7 (ix2 i j) = IntOp.cmpi .slt (BitVec.ofNat 32 i.val) (BitVec.ofNat 32 j.val) := by pointwise [k1_pay7]
    rw [this]
    have h' : ¬ i.val < j.val := h
    word_omega
  rw [e, e7]
  simp [Scalar.select, IntOp.andi]

/-- What the second kernel stores. -/
def nmsOut (Y0 : S1x1024x4.Idx → Elt Ideal .f32) (Y1 : S1x4x1024.Idx → Elt Ideal .f32) (Y2 : S1x1x1024.Idx → Elt Ideal .f32) :
    S1x1x1024.Idx → Elt Ideal .f32 :=
  k1_pay3 (F := Ideal) (steps (k1_pay2 (F := Ideal) Y2) (supM Y0 Y1) 1024)

/-- A load of a whole block is the block. -/
theorem ldA (X : S1x1024x4.Idx → Elt Ideal .f32) :
    View.ld X (Rect.unit (s := S1x1024x4) ![0, 0, 0] S1x1024x4.size inb_S1x1024x4_S1x1024x4_0_0_0) = X :=
  View.ld_unit_zero (funext fun a => by fin_cases a <;> rfl) _ X
/-- A load of a whole block is the block. -/
theorem ldB (X : S1x4x1024.Idx → Elt Ideal .f32) :
    View.ld X (Rect.unit (s := S1x4x1024) ![0, 0, 0] S1x4x1024.size inb_S1x4x1024_S1x4x1024_0_0_0) = X :=
  View.ld_unit_zero (funext fun a => by fin_cases a <;> rfl) _ X
/-- A load of a whole block is the block. -/
theorem ldC (X : S1x1x1024.Idx → Elt Ideal .f32) :
    View.ld X (Rect.unit (s := S1x1x1024) ![0, 0, 0] S1x1x1024.size inb_S1x1x1024_S1x1x1024_0_0_0) = X :=
  View.ld_unit_zero (funext fun a => by fin_cases a <;> rfl) _ X

/-- The scratch, once stored whole, holds what was stored. -/
theorem scratch_stored (c : Dev nD) (f : (Memref.whole cc1_scratch0).view.ty.Contents (Elt Ideal)) (w : S1024x1024.Idx → Elt Ideal .f32) :
    ((Memref.whole cc1_scratch0).view.loc (c : Thread nD τ) ↦[(Memref.whole cc1_scratch0).view.set]{fullShare}
      (Memref.whole cc1_scratch0).view.writes (Elt Ideal) f
        [⟨Rect.unit (s := S1024x1024) ![0, 0] S1024x1024.size inb_S1024x1024_S1024x1024_0_0, w⟩] : sProp 𝕄) ⊢ heldS w c := by
  unfold heldS
  rw [← owns_whole (c : Thread nD τ) cc1_scratch0 fullShare w]
  unfold owns
  iintro H
  iexists _; isplitr; swap; · iexact H
  ipureintro
  exact View.read_writes_full _ _ _ _ _

/-- The scratch held, as the executor writes it. -/
theorem held_owns (c : Dev nD) (w : S1024x1024.Idx → Elt Ideal .f32) :
    (heldS w c : sProp 𝕄) ⊢ iprop(∃ f, ⌜View.read (Elt Ideal) (Memref.whole cc1_scratch0).view f = w⌝ ∗
      ((Memref.whole cc1_scratch0).view.loc (c : Thread nD τ) ↦[(Memref.whole cc1_scratch0).view.set]{fullShare} f)) := by
  show (heldS w c : sProp 𝕄) ⊢ owns (c : Thread nD τ) (Memref.whole cc1_scratch0) fullShare w
  rw [owns_whole]
  exact .rfl

/-- The second kernel's body, run at a point on any staging buffers and the scratch. -/
theorem nms_run (c : Dev nD) (i : grid1.Coords)
    (arg1 : Memref sig .tc .vmem S1x1024x4 .f32) (harg1 : arg1.IsWhole) (arg2 : Memref sig .tc .vmem S1x4x1024 .f32) (harg2 : arg2.IsWhole)
    (arg3 : Memref sig .tc .vmem S1x1x1024 .f32) (harg3 : arg3.IsWhole) (arg4 : Memref sig .tc .vmem S1x1x1024 .f32) (harg4 : arg4.IsWhole)
    (Y0 : S1x1024x4.Idx → Elt Ideal .f32) (Y1 : S1x4x1024.Idx → Elt Ideal .f32) (Y2 Y3 : S1x1x1024.Idx → Elt Ideal .f32)
    (f : S1024x1024.Idx → Elt Ideal .f32) (K : PUnit → sProp 𝕄) :
    iprop(owns (c : Thread nD τ) arg1 fullShare Y0 ∗ owns (c : Thread nD τ) arg2 fullShare Y1 ∗ owns (c : Thread nD τ) arg3 fullShare Y2
        ∗ owns (c : Thread nD τ) arg4 fullShare Y3 ∗ owns (c : Thread nD τ) (Memref.whole cc1_scratch0) fullShare f
        ∗ (iprop(owns (c : Thread nD τ) arg1 fullShare Y0 ∗ owns (c : Thread nD τ) arg2 fullShare Y1 ∗ owns (c : Thread nD τ) arg3 fullShare Y2
          ∗ owns (c : Thread nD τ) arg4 fullShare (nmsOut Y0 Y1 Y2) ∗ (∃ f', owns (c : Thread nD τ) (Memref.whole cc1_scratch0) fullShare f')) -∗ K ⟨⟩))
      ⊢ wp frame (wpE (defs₀ (F := Ideal)) 𝒱₀ c none) Set.univ
          (cc1__nms_kernel i arg1 harg1 arg2 harg2 arg3 harg3 arg4 harg4 (Memref.whole cc1_scratch0) (Memref.isWhole_whole _)) K := by
  simp only [cc1__nms_kernel_eq_skeleton]; unfold cc1__nms_kernel_skel
  simp only [k1_part1_eq_skeleton]; unfold k1_part1_skel
  unfold owns
  iintro ⟨⟨%f0, %h0, H0⟩, ⟨%f1, %h1, H1⟩, ⟨%f2, %h2, H2⟩, ⟨%f3, %h3, H3⟩, ⟨%f4, %h4, HS⟩, Hk⟩
  sl_exec
  have e0 : View.readAt (Elt Ideal) arg1.view (Rect.unit (s := S1x1024x4) ![0, 0, 0] S1x1024x4.size inb_S1x1024x4_S1x1024x4_0_0_0).toLoadRect f0 = Y0 := by
    rw [View.readAt_eq_ld, h0, ldA]
  have e1 : View.readAt (Elt Ideal) arg2.view (Rect.unit (s := S1x4x1024) ![0, 0, 0] S1x4x1024.size inb_S1x4x1024_S1x4x1024_0_0_0).toLoadRect f1 = Y1 := by
    rw [View.readAt_eq_ld, h1, ldB]
  have e2 : View.readAt (Elt Ideal) arg3.view (Rect.unit (s := S1x1x1024) ![0, 0, 0] S1x1x1024.size inb_S1x1x1024_S1x1x1024_0_0_0).toLoadRect f2 = Y2 := by
    rw [View.readAt_eq_ld, h2, ldC]
  ihave HS := (scratch_stored c f4 _) $$ HS
  rw [e0, e1, e2]
  have hle := spec_le (k1_pay2 (F := Ideal) Y2) (supM Y0 Y1) (supM_upper Y0 Y1) c Set.univ i 1030 0 1#1 (by omega) (fun _ => by omega)
    (fun h => absurd rfl h)
  iapply (wp_call_spec 𝒱₀ (c : Thread nD τ) none Set.univ (spec (k1_pay2 (F := Ideal) Y2) (supM Y0 Y1) c) 1030 (fun u hu => nomatch hu) hle)
  rw [spec_apply]
  isplitl [HS]
  · iexact HS
  iintro %r %hr HS
  sl_exec
  sl_step
  iapply Hk
  isplitl [H0]
  · iexists _; isplitr; swap; · iexact H0
    ipureintro; exact h0
  isplitl [H1]
  · iexists _; isplitr; swap; · iexact H1
    ipureintro; exact h1
  isplitl [H2]
  · iexists _; isplitr; swap; · iexact H2
    ipureintro; exact h2
  isplitl [H3]
  · iexists _; isplitr; swap; · iexact H3
    ipureintro
    refine (View.read_writes_full _ _ _ _ _).trans ?_
    rw [hr]; rfl
  iexists (supM Y0 Y1)
  iapply (held_owns c (supM Y0 Y1))
  iexact HS

end Cert.KernelIdeal.Hand

end
-- ==== Proof.K.Region1.lean ====
/-
  The second call as a region: at each point the settled row of one image is stored, and the array that all points leave.
-/
module

public import proofs.«01_k».proof.Proof.K.Nms
public import Idealize.ShloMosaic.Lib.Pipeline.ArrRel

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg)

local notation "𝕄" => MT nD τ sig Unit (Elt Ideal) ℕ UR ℕ

variable (V : Dev nD → Valuation τ sig (Elt Ideal))

/-- The block an input window reads at a point, as the window's view reads it. -/
abbrev iblk1 (c : Dev nD) (w : Fin (cfg1 (F := Ideal)).W) (t : Fin (cfg1 (F := Ideal)).N) :=
  (((cfg1 (F := Ideal)).win w).blk t).view.read (Elt Ideal) (V c (Proc.devRef .tc (Pipeline.arrRef spec1 w)))

/-- The second call's relational data: inputs are left as found, the result's buffer gets the settled row. -/
def rd1 (c : Dev nD) : RDat τ (Elt Ideal) Unit ℕ UR ℕ (cfg1 (F := Ideal)) c where
  A := fun w => V c (Proc.devRef .tc (Pipeline.arrRef spec1 w))
  after := fun w => match w with
    | ⟨0, _⟩ => fun _ Y X => X = Y
    | ⟨1, _⟩ => fun _ Y X => X = Y
    | ⟨2, _⟩ => fun _ Y X => X = Y
    | ⟨3, _⟩ => fun t _ X => X = nmsOut (iblk1 V c 0 t) (iblk1 V c 1 t) (iblk1 V c 2 t)
    | ⟨n + 4, h⟩ => absurd (show n + 4 < 4 from h) (by omega)
  Φ := fun _ => Pipeline.scopedRest spec1 c
  q := fun _ => fullShare
  owed := fun _ => 0

/-- What the second call's body is run as at a point. -/
theorem defs₀_row1 (t : Fin (cfg1 (F := Ideal)).N) :
    defs₀ (F := Ideal) .tc (cfg1 (F := Ideal)).body ((cfg1 (F := Ideal)).bodyArgs t ((cfg1 (F := Ideal)).slots t)) = bodyAt1 (F := Ideal) t := by
  unfold defs₀; rw [Defs.onTc_tc]

/-- A fetched input buffer holds the window's block. -/
theorem finds1 (c : Dev nD) (w : Fin (cfg1 (F := Ideal)).W) (hw : w.val < 3) (t : Fin (cfg1 (F := Ideal)).N) (Y)
    (h : (rd1 V c).Finds w t Y) : ∀ y, Y (((cfg1 (F := Ideal)).win w).xinj _ y) = iblk1 V c w t y := by
  have hf : ((cfg1 (F := Ideal)).win w).fetch t = true := by
    match w with
    | ⟨0, _⟩ => exact fetch1_0 t
    | ⟨1, _⟩ => exact fetch1_1 t
    | ⟨2, _⟩ => exact fetch1_2 t
    | ⟨n + 3, _⟩ => exact absurd hw (by simp)
  obtain ⟨d, rfl⟩ := ((rd1 V c).finds_of_fetch hf _).mp h
  intro y
  exact congrFun ((((cfg1 (F := Ideal)).win w).cut_fill _ _ _)) y

/-- The last of thirteen conjuncts brought to the front. -/
theorem last_first (P1 P2 P3 P4 P5 P6 P7 P8 P9 P10 P11 P12 Q : sProp 𝕄) : iprop(P1 ∗ P2 ∗ P3 ∗ P4 ∗ P5 ∗ P6 ∗ P7 ∗ P8 ∗ P9 ∗ P10 ∗ P11 ∗ P12 ∗ Q) ⊣⊢ iprop(Q ∗ (P1 ∗ P2 ∗ P3 ∗ P4 ∗ P5 ∗ P6 ∗ P7 ∗ P8 ∗ P9 ∗ P10 ∗ P11 ∗ P12)) := by
  constructor
  · iintro ⟨H1, H2, H3, H4, H5, H6, H7, H8, H9, H10, H11, H12, HQ⟩
    isplitl [HQ]; · iexact HQ
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · iintro ⟨HQ, H1, H2, H3, H4, H5, H6, H7, H8, H9, H10, H11, H12⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact HQ

/-- The scoped buffers that the second call's windows do not stage: the scratch, and the rest. -/
theorem rest1 (c : Dev nD) : ∃ R : sProp 𝕄, (Pipeline.scopedRest (Val := Elt Ideal) spec1 c : sProp 𝕄) ⊣⊢
    iprop((∃ f, owns (c : Thread nD τ) (Memref.whole cc1_scratch0) fullShare f) ∗ R) := by
  rw [scopedRest1_eq]
  simp only [owns_whole]
  exact ⟨_, last_first _ _ _ _ _ _ _ _ _ _ _ _ _⟩

/-- The second call's body meets its relation at every point. -/
theorem body1 (c : Dev nD) : (rd1 V c).BodyObligation (defs₀ (F := Ideal)) 𝒱₀ () Set.univ := by
  intro t Y hY
  obtain ⟨R, hR⟩ := rest1 c
  rw [bigSep_W1, bigSep_W1, defs₀_row1, show (rd1 V c).Φ t.succ = (Pipeline.scopedRest (Val := Elt Ideal) spec1 c : sProp 𝕄) from rfl,
    show (rd1 V c).Φ t.castSucc = (Pipeline.scopedRest (Val := Elt Ideal) spec1 c : sProp 𝕄) from rfl,
    show (rd1 V c).owesAt () t.succ = (rd1 V c).owesAt () t.castSucc from rfl]
  have h0 : Y 0 = iblk1 V c 0 t := funext (finds1 V c 0 (by decide) t _ (hY 0))
  have h1 : Y 1 = iblk1 V c 1 t := funext (finds1 V c 1 (by decide) t _ (hY 1))
  have h2 : Y 2 = iblk1 V c 2 t := funext (finds1 V c 2 (by decide) t _ (hY 2))
  iintro ⟨HΦ, Hw, H0, H1, H2, H3⟩
  ihave HΦ := hR.1 $$ HΦ
  icases HΦ with ⟨⟨%f, HS⟩, HR⟩
  iapply (nms_run c (grid1.coords t) _ _ _ _ _ _ _ _ (Y 0) (Y 1) (Y 2) (Y 3) f _)
  isplitl [H0]; · iexact H0
  isplitl [H1]; · iexact H1
  isplitl [H2]; · iexact H2
  isplitl [H3]; · iexact H3
  isplitl [HS]; · iexact HS
  iintro ⟨H0, H1, H2, H3, HS⟩
  isplitl [HS HR]
  · iapply hR.2
    isplitl [HS]; · iexact HS
    iexact HR
  isplitl [Hw]; · iexact Hw
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  iexists _; isplitr; swap; · iexact H3
  ipureintro; show nmsOut (Y 0) (Y 1) (Y 2) = _; rw [h0, h1, h2]

/-- The second call's point for an image. -/
def pt1 (b : Fin 16) : Fin (cfg1 (F := Ideal)).N := ⟨b.val, by rw [show (cfg1 (F := Ideal)).N = 16 from N_1]; exact b.isLt⟩

/-- The second call's result. -/
def G3 (c : Dev nD) : S16x1x1024.Idx → Elt Ideal .f32 := fun i =>
  nmsOut (iblk1 V c 0 (pt1 (i 0))) (iblk1 V c 1 (pt1 (i 0))) (iblk1 V c 2 (pt1 (i 0))) (ix3 (0 : Fin 1) (0 : Fin 1) (i 2))

/-- The blocks the result is written back from: an image each. -/
theorem idx13 : ∀ t : Fin grid1.N, win1_3.index t = ![t.val, 0, 0] := by decide +kernel

/-- After the second call its result is `G3`. -/
theorem exact3 (c : Dev nD) (A : (w : Fin (cfg1 (F := Ideal)).W) → Buf (Elt Ideal) (((cfg1 (F := Ideal)).win w).arr.view.loc (c.tc : Thread nD τ)))
    (h : ∀ w, (rd1 V c).ArrAt w (cfg1 (F := Ideal)).N (A w)) : A 3 = G3 V c := by
  obtain ⟨after, hL, hA⟩ := RDat.ArrAt.exists_exact_all h
  rw [hA 3]
  refine Pipeline.Dat.arrAt_eq_of_covers _ 3 _ (by decide +kernel) fun t hf y => ?_
  obtain ⟨_, _, hl⟩ := hL 3 t t.isLt hf
  have hl : after 3 t = nmsOut (iblk1 V c 0 t) (iblk1 V c 1 t) (iblk1 V c 2 t) := hl
  blk_simp [idx13 t]
  have e : (win1_3.blk t).view.emb y = ix3 (⟨t.val, lt_of_lt_of_eq t.isLt N_1⟩ : Fin 16) (0 : Fin 1) (y 2) := by
    blk_ext [idx13 t]
  have ey : y = ix3 (0 : Fin 1) (0 : Fin 1) (y 2) := by
    blk_ext
  rw [e]
  show after 3 t y = _
  rw [hl]
  conv_lhs => rw [ey]
  rfl

/-- The second call leaves its inputs as they were. -/
theorem exact_in1 (c : Dev nD) (A : (w : Fin (cfg1 (F := Ideal)).W) → Buf (Elt Ideal) (((cfg1 (F := Ideal)).win w).arr.view.loc (c.tc : Thread nD τ)))
    (h : ∀ w, (rd1 V c).ArrAt w (cfg1 (F := Ideal)).N (A w)) (w : Fin (cfg1 (F := Ideal)).W) (hw : ((cfg1 (F := Ideal)).win w).isOut = false) :
    A w = V c (Proc.devRef .tc (Pipeline.arrRef spec1 w)) := by
  have := h w
  rw [RDat.ArrAt_in _ _ hw] at this
  exact this

end Cert.KernelIdeal.Hand

end
-- ==== Proof.K.Run.lean ====
/-
  The whole kernel program run at ideal numbers: the two calls as regions between the host stretches, ending with every
  array of the device at the last valuation.
-/
module

public import proofs.«01_k».proof.Proof.K.Result0
public import proofs.«01_k».proof.Proof.K.Region1
public import proofs.«01_k».proof.Proof.RelRegion
public import proofs.«01_k».proof.Proof.Gen.KernelIdeal.Regions

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg)
open Idealize.ShloMosaic.Rounds

local notation "𝕄" => MT nD τ sig Unit (Elt Ideal) ℕ UR ℕ

variable (m : (ℓ : Loc nD τ sig) → Buf (Elt Ideal) ℓ)

/-- The arrays after the first call. -/
def after0 (c : Dev nD) : Valuation τ sig (Elt Ideal) :=
  Function.update (Function.update (V0 m c) main_v0_0 (G4 (V0 m) c)) main_v0_1 (G5 (V0 m) c)
/-- What the first call leaves, the second left open. -/
def outs0 : Outs (F := Ideal) := fun _ r c => after0 m c (Proc.devRef .tc r)
/-- The arrays after the second call. -/
def after1 (c : Dev nD) : Valuation τ sig (Elt Ideal) :=
  Function.update (V18 m (outs0 m) c) main_v36 (G3 (V18 m (outs0 m)) c)
/-- What the two calls leave. -/
def outs : Outs (F := Ideal) := fun n r c => match n with
  | 1 => after0 m c (Proc.devRef .tc r)
  | _ => after1 m c (Proc.devRef .tc r)

theorem outs_1_0 (c : Dev nD) : outs m 1 main_v0_0 c = G4 (V0 m) c := by
  show after0 m c (Proc.devRef .tc main_v0_0) = _
  unfold after0
  rw [Function.update_of_ne (by decide), Function.update_self]
theorem outs_1_1 (c : Dev nD) : outs m 1 main_v0_1 c = G5 (V0 m) c := by
  show after0 m c (Proc.devRef .tc main_v0_1) = _
  unfold after0
  rw [Function.update_self]

/-- Up to the second call only what the first leaves matters. -/
theorem V1_outs0 : V1 m (outs0 m) = V1 m (outs m) := rfl
theorem V18_outs0 : V18 m (outs0 m) = V18 m (outs m) := by
  funext c
  simp only [V18, V17, V16, V15, V14, V13, V12, V11, V10, V9, V8, V7, V6, V5, V4, V3, V2]
  rw [V1_outs0]

theorem outs_19 (c : Dev nD) : outs m 19 main_v36 c = G3 (V18 m (outs m)) c := by
  show after1 m c (Proc.devRef .tc main_v36) = _
  unfold after1
  rw [Function.update_self, V18_outs0]

/-- The two calls' proof data. -/
def rdats : (p : Fin 2) → (c : Dev nD) → RDat τ (Elt Ideal) Unit ℕ UR ℕ (Pipeline.pin (pcfgs (F := Ideal)) adm p) c
  | ⟨0, _⟩ => fun c => rd0 (V0 m) c
  | ⟨1, _⟩ => fun c => rd1 (V18 m (outs m)) c

/-- No levels are used. -/
abbrev noL : GSem nD τ sig → Finset Unit := fun _ => ∅
abbrev nolv : GSem nD τ sig → Unit → ℕ := fun _ _ => 0

theorem left0 (c : Dev nD) (A : (w : Fin (cfg0 (F := Ideal)).W) → Buf (Elt Ideal) (((cfg0 (F := Ideal)).win w).arr.view.loc (c.tc : Thread nD τ)))
    (h : ∀ w, (rd0 (V0 m) c).ArrAt w (cfg0 (F := Ideal)).N (A w)) (w : Fin (cfg0 (F := Ideal)).W) :
    A w = V1 m (outs m) c (Proc.devRef .tc (Pipeline.arrRef spec0 w)) := by
  match w with
  | ⟨0, _⟩ => exact (exact_in (V0 m) c A h 0 rfl).trans (V1_of m (outs m) c _ (by decide)).symm
  | ⟨1, _⟩ => exact (exact_in (V0 m) c A h 1 rfl).trans (V1_of m (outs m) c _ (by decide)).symm
  | ⟨2, _⟩ => exact (exact_in (V0 m) c A h 2 rfl).trans (V1_of m (outs m) c _ (by decide)).symm
  | ⟨3, _⟩ => exact (exact_in (V0 m) c A h 3 rfl).trans (V1_of m (outs m) c _ (by decide)).symm
  | ⟨4, _⟩ =>
    refine (exact4 (V0 m) c A h).trans ?_
    show _ = Function.update (Function.update (V0 m c) main_v0_0 (outs m 1 main_v0_0 c)) main_v0_1 (outs m 1 main_v0_1 c) (Proc.devRef .tc main_v0_0)
    rw [Function.update_of_ne (by decide), Function.update_self, outs_1_0]
  | ⟨5, _⟩ =>
    refine (exact5 (V0 m) c A h).trans ?_
    show _ = Function.update (Function.update (V0 m c) main_v0_0 (outs m 1 main_v0_0 c)) main_v0_1 (outs m 1 main_v0_1 c) (Proc.devRef .tc main_v0_1)
    rw [Function.update_self, outs_1_1]

theorem left1 (c : Dev nD) (A : (w : Fin (cfg1 (F := Ideal)).W) → Buf (Elt Ideal) (((cfg1 (F := Ideal)).win w).arr.view.loc (c.tc : Thread nD τ)))
    (h : ∀ w, (rd1 (V18 m (outs m)) c).ArrAt w (cfg1 (F := Ideal)).N (A w)) (w : Fin (cfg1 (F := Ideal)).W) :
    A w = V19 m (outs m) c (Proc.devRef .tc (Pipeline.arrRef spec1 w)) := by
  match w with
  | ⟨0, _⟩ => exact (exact_in1 _ c A h 0 rfl).trans (V19_of m (outs m) c _ (by decide)).symm
  | ⟨1, _⟩ => exact (exact_in1 _ c A h 1 rfl).trans (V19_of m (outs m) c _ (by decide)).symm
  | ⟨2, _⟩ => exact (exact_in1 _ c A h 2 rfl).trans (V19_of m (outs m) c _ (by decide)).symm
  | ⟨3, _⟩ =>
    refine (exact3 _ c A h).trans ?_
    show _ = Function.update (V18 m (outs m) c) main_v36 (outs m 19 main_v36 c) (Proc.devRef .tc main_v36)
    rw [Function.update_self, outs_19]

/-- The first call as a segment. -/
def region0 : RDat.RegionSeg (pcfgs (F := Ideal)) adm (rdats m) () defs₀ 𝒱₀ noL nolv 0 :=
  relSeg (pcfgs (F := Ideal)) adm (rdats m) () defs₀ 𝒱₀ noL nolv 0 launch0.toP rfl (fun c => body0 (V0 m) c)
    (fun _ _ => rfl) (fun _ => rfl) (fun c w => (by
      match w with
      | ⟨0, _⟩ => rfl | ⟨1, _⟩ => rfl | ⟨2, _⟩ => rfl | ⟨3, _⟩ => rfl | ⟨4, _⟩ => rfl | ⟨5, _⟩ => rfl)) (fun _ _ => rfl) (V0 m) (V1 m (outs m)) (fun _ _ => rfl)
    (fun c A h => left0 m c A h) (fun c b hb => by
      show Function.update (Function.update (V0 m c) main_v0_0 (outs m 1 main_v0_0 c)) main_v0_1 (outs m 1 main_v0_1 c) b = _
      have hb' := (Finset.mem_sdiff.mp hb).2
      rw [Function.update_of_ne, Function.update_of_ne]
      · rintro rfl; exact hb' (by decide)
      · rintro rfl; exact hb' (by decide))

/-- The second call as a segment. -/
def region1 : RDat.RegionSeg (pcfgs (F := Ideal)) adm (rdats m) () defs₀ 𝒱₀ noL nolv 1 :=
  relSeg (pcfgs (F := Ideal)) adm (rdats m) () defs₀ 𝒱₀ noL nolv 1 launch1.toP rfl (fun c => body1 (V18 m (outs m)) c)
    (fun _ _ => rfl) (fun _ => rfl) (fun c w => (by
      match w with
      | ⟨0, _⟩ => rfl | ⟨1, _⟩ => rfl | ⟨2, _⟩ => rfl | ⟨3, _⟩ => rfl)) (fun _ _ => rfl) (V18 m (outs m)) (V19 m (outs m)) (fun _ _ => rfl)
    (fun c A h => left1 m c A h) (fun c b hb => by
      show Function.update (V18 m (outs m) c) main_v36 (outs m 19 main_v36 c) b = _
      have hb' := (Finset.mem_sdiff.mp hb).2
      rw [Function.update_of_ne]
      rintro rfl; exact hb' (by decide))

/-- What rides along the host stretches: the core owes nothing. -/
abbrev idle : Fin 3 → Dev nD → sProp 𝕄 := fun _ c => iprop(∃ Wd, owes (c : Thread nD τ) (0 : CellTallies nD τ sig Unit) Wd)

/-- The whole program as segments. -/
def items (_ : Dev nD) : List (RDat.Seg (pcfgs (F := Ideal)) adm (rdats m) () defs₀ 𝒱₀ noL nolv) :=
  [.region (region0 m),
   .host (seg1 m (outs m) 𝒱₀ noL nolv idle),
   .host (seg2 m (outs m) 𝒱₀ noL nolv idle),
   .host (seg3 m (outs m) 𝒱₀ noL nolv idle),
   .host (seg4 m (outs m) 𝒱₀ noL nolv idle),
   .host (seg5 m (outs m) 𝒱₀ noL nolv idle),
   .host (seg6 m (outs m) 𝒱₀ noL nolv idle),
   .host (seg7 m (outs m) 𝒱₀ noL nolv idle),
   .host (seg8 m (outs m) 𝒱₀ noL nolv idle),
   .host (seg9 m (outs m) 𝒱₀ noL nolv idle),
   .host (seg10 m (outs m) 𝒱₀ noL nolv idle),
   .host (seg11 m (outs m) 𝒱₀ noL nolv idle),
   .host (seg12 m (outs m) 𝒱₀ noL nolv idle),
   .host (seg13 m (outs m) 𝒱₀ noL nolv idle),
   .host (seg14 m (outs m) 𝒱₀ noL nolv idle),
   .host (seg15 m (outs m) 𝒱₀ noL nolv idle),
   .host (seg16 m (outs m) 𝒱₀ noL nolv idle),
   .host (seg17 m (outs m) 𝒱₀ noL nolv idle),
   .region (region1 m),
   .host (seg19 m (outs m) 𝒱₀ noL nolv idle),
   .host (seg20 m (outs m) 𝒱₀ noL nolv idle),
   .host (seg21 m (outs m) 𝒱₀ noL nolv idle),
   .host (seg22 m (outs m) 𝒱₀ noL nolv idle),
   .host (seg23 m (outs m) 𝒱₀ noL nolv idle),
   .host (seg24 m (outs m) 𝒱₀ noL nolv idle)]

/-- The launch element. -/
def u₀ : UR := initOf (Pipeline.cells (Pipeline.pin (pcfgs (F := Ideal)) adm) cellOf_inj) (Pipeline.launchToks (Pipeline.pin (pcfgs (F := Ideal)) adm) cellOf_inj)

/-- Where the program ends: results at the last valuation, arguments as launched. -/
def EndsAt (c : Dev nD) (s : MemSt nD τ sig (Elt Ideal)) : Prop :=
  (s.mem ((c.tc : Thread nD τ).loc main_v44) = V25 m (outs m) c (Proc.devRef .tc main_v44)
  ∧ s.mem ((c.tc : Thread nD τ).loc main_v45) = V25 m (outs m) c (Proc.devRef .tc main_v45)
  ∧ s.mem ((c.tc : Thread nD τ).loc main_v46) = V25 m (outs m) c (Proc.devRef .tc main_v46))
  ∧ s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)

-- the implicit arguments are found by unifying the conclusion, which unfolds plain definitions in a metavariable's type
set_option backward.isDefEq.respectTransparency.types false in
/-- Every fair run of the kernel program ends, with the results at the last valuation, the arguments as launched and every
    semaphore at zero. -/
theorem kernel_run (ρ : Dev nD → PrngReg) :
    θ_run defs (onTc (τ := τ) (main (F := Ideal))) ⟨m, fun _ => 0, ρ⟩ (fun r => (∀ c : Dev nD, EndsAt m c r.2) ∧ r.2.sem = fun _ => 0) := by
  refine Pipeline.RDat.θ_run_regions_kit_dev_sems (pcfgs (F := Ideal)) adm (rdats m) () cellOf_inj EP defs₀ 𝒱₀ noL nolv m ρ main
    (items m)
    (fun c Q => by
      rewrite [main_chain c, RDat.Seg.run_eq_chain,
        show (items m c).map RDat.Seg.prog = [
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          StableHlo.seq hostOps1_9,
          StableHlo.seq hostOps1_10,
          StableHlo.seq hostOps1_11,
          StableHlo.seq hostOps1_12,
          StableHlo.seq hostOps1_13,
          StableHlo.seq hostOps1_14,
          StableHlo.seq hostOps1_15,
          StableHlo.seq hostOps1_16,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5 ] from rfl]
      dsimp (config := { failIfUnchanged := false }) only
      exact .rfl)
    (fun c => by simp only [items, RDat.Seg.pipes_host, RDat.Seg.pipes_region, RDat.Seg.pipes_nil]; decide)
    0 (fun _ _ => rfl) (fun _ => iprop(emp)) u₀ ?_
    (T₀ := fun c => iprop(StableHlo.held (c : Thread nD τ) (Pipeline.ucRefs τ sig) (V0 m c) ∗ idle 0 c))
    (Tₙ := fun c => StableHlo.held (c : Thread nD τ) (Pipeline.ucRefs τ sig) (V25 m (outs m) c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl⟩)
    (hinit := ?_) (QY := fun c s => EndsAt m c s)
    (hfin := fun c s' => ?_) (hQ := fun _ h hz => ⟨h, funext fun g => hz g (.inr (regions_no_unscoped g.2))⟩)
  · iintro Hu
    imodintro
    isplitl [Hu]
    · iapply (show (ownU u₀ : sProp 𝕄) ⊢ BI.own (EP u₀) from BI.Entails.refl _)
      iexact Hu
    iapply (show (BI.emp : sProp 𝕄) ⊢ bigSep Finset.univ (fun _ : Dev nD => (BI.emp : sProp 𝕄)) from by rw [BI.bigSep_emp_const])
    iempintro
  · have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (iprop(emp) : sProp 𝕄)))
        ⊢ (bigSep Finset.univ fun c : Dev nD => iprop(StableHlo.held (c : Thread nD τ) (Pipeline.ucRefs τ sig) (V0 m c) ∗ idle 0 c) : sProp 𝕄) := by
      have hone : ∀ c : Dev nD, (iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (iprop(emp) : sProp 𝕄)) : sProp 𝕄)
          ⊢ (iprop(StableHlo.held (c : Thread nD τ) (Pipeline.ucRefs τ sig) (V0 m c) ∗ idle 0 c) : sProp 𝕄) := fun c => by
        rw [← Pipeline.unscopedBufs_held (Ix := Unit) (Name := ℕ) (U := UR) (Lvl := ℕ) c (V0 m c)]
        iintro ⟨Hb, -, HO, -, -, -⟩
        isplitl [Hb]; · iexact Hb
        iexists ∅
        iexact HO
      exact bigSep_mono fun c _ => hone c
    iintro ⟨H, -⟩
    imodintro
    iapply hsplit
    iexact H
  · unfold StableHlo.held
    iintro ⟨Hh, HSI⟩
    ihave Hr := (pointsTo_read_all (Pipeline.ucRefs τ sig) (fun b => ((c : Thread nD τ).1, b)) (V25 m (outs m) c) s') $$ [Hh HSI]
    · isplitl [Hh] <;> iassumption
    icases Hr with ⟨%h, HSI⟩
    imodintro
    isplitr
    · ipureintro
      have hr : ∀ r : Ref sig .tc, Proc.devRef .tc r ∈ Pipeline.ucRefs τ sig →
          s'.mem.mem ((c.tc : Thread nD τ).loc r) = V25 m (outs m) c (Proc.devRef .tc r) := fun r hr => h (Proc.devRef .tc r) hr
      exact ⟨⟨hr main_v44 (Finset.mem_filter.mpr ⟨StableHlo.devRef_mem_tcRefs main_v44, by decide⟩),
        hr main_v45 (Finset.mem_filter.mpr ⟨StableHlo.devRef_mem_tcRefs main_v45, by decide⟩),
        hr main_v46 (Finset.mem_filter.mpr ⟨StableHlo.devRef_mem_tcRefs main_v46, by decide⟩)⟩,
        (hr main_arg0 (Finset.mem_filter.mpr ⟨StableHlo.devRef_mem_tcRefs main_arg0, by decide⟩)).trans (V25_main_arg0 m (outs m) c),
        (hr main_arg1 (Finset.mem_filter.mpr ⟨StableHlo.devRef_mem_tcRefs main_arg1, by decide⟩)).trans (V25_main_arg1 m (outs m) c),
        (hr main_arg2 (Finset.mem_filter.mpr ⟨StableHlo.devRef_mem_tcRefs main_arg2, by decide⟩)).trans (V25_main_arg2 m (outs m) c),
        (hr main_arg3 (Finset.mem_filter.mpr ⟨StableHlo.devRef_mem_tcRefs main_arg3, by decide⟩)).trans (V25_main_arg3 m (outs m) c),
        (hr main_arg4 (Finset.mem_filter.mpr ⟨StableHlo.devRef_mem_tcRefs main_arg4, by decide⟩)).trans (V25_main_arg4 m (outs m) c)⟩
    · iexact HSI

end Cert.KernelIdeal.Hand

end
-- ==== Proof.Math.Order.lean ====
/-
  A stable sort that compares keys alone is the sort by key and then by position, and is determined by an ordered, dominating
  list of positions.
-/
module

public import Idealize.ShloMosaic.Lib.SortFacts
public import Idealize.ShloMosaic.Lib.SortPrefix

@[expose] public section

namespace Cert.Nms

open Idealize.ShloMosaic

variable {κ : Type} [LinearOrder κ]

/-- Before: the larger key, or the same key at the smaller position. -/
def lex {n : Nat} (key : Fin n → κ) (p q : Fin n) : Bool := decide (key q < key p) || (decide (key p = key q) && decide (p < q))

theorem lex_strict {n : Nat} (key : Fin n → κ) : StrictTotalBefore (lex key) :=
  StrictTotalBefore.of_key_then_position (fun a b => decide (b < a)) key (by simp)
    (fun a b c h h' => by simp only [decide_eq_true_eq] at *; exact lt_trans h' h)
    (fun a b => by
      rcases lt_trichotomy a b with h | h | h
      · right; right; simpa using h
      · right; left; exact h
      · left; simpa using h)

theorem stableSort_lex {n : Nat} (key : Fin n → κ) : ∀ l : List (Fin n), l.Pairwise (· < ·) →
    stableSort (fun p q => decide (key q < key p)) l = stableSort (lex key) l
  | [], _ => rfl
  | a :: l, h => by
    rw [List.pairwise_cons] at h
    unfold stableSort
    rw [stableSort_lex key l h.2]
    refine insertBefore_congr _ _ a _ fun b hb => ?_
    have hab : a < b := h.1 b ((perm_stableSort _ l).mem_iff.mp hb)
    have : ¬ b < a := not_lt.mpr hab.le
    simp [lex, this]

/-- The sort that compares keys alone reads the positions the sort by key and position does. -/
theorem sortedFrom_lex {n : Nat} (key : Fin n → κ) : sortedFrom (fun p q => decide (key q < key p)) = sortedFrom (lex key) := by
  have h : sortPositions n (fun p q => decide (key q < key p)) = sortPositions n (lex key) := by
    unfold sortPositions
    exact stableSort_lex key _ (List.pairwise_lt_finRange n)
  funext k
  unfold sortedFrom
  rw [List.get_of_eq h]
  rfl

/-- The order of the sorted positions: an earlier place holds an element that is before. -/
theorem sorted_before {n : Nat} (key : Fin n → κ) {i j : Fin n} (h : i < j) :
    lex key (sortedFrom (lex key) i) (sortedFrom (lex key) j) = true := by
  have hS := lex_strict key
  have h1 := sortedFrom_noInversion (lex key) (lex key) (fun a b h => hS.asymm a b h) (fun _ _ h => h) hS.negTrans i j h
  rcases hS.total (sortedFrom (lex key) i) (sortedFrom (lex key) j)
    (fun e => absurd (sortedFrom_injective _ e) h.ne) with h2 | h2
  · exact h2
  · rw [h1] at h2; exact absurd h2 (by decide)

theorem sorted_before_iff {n : Nat} (key : Fin n → κ) {i j : Fin n} :
    lex key (sortedFrom (lex key) i) (sortedFrom (lex key) j) = true ↔ i < j := by
  refine ⟨fun h => ?_, sorted_before key⟩
  by_contra hc
  rcases eq_or_lt_of_le (not_lt.mp hc) with e | e
  · subst e
    rw [(lex_strict key).irrefl] at h; exact absurd h (by decide)
  · rw [(lex_strict key).asymm _ _ (sorted_before key e)] at h; exact absurd h (by decide)

/-- Where an element stands in the order. -/
theorem sorted_pos {n : Nat} (key : Fin n → κ) (p : Fin n) : ∃ i, sortedFrom (lex key) i = p :=
  sortedFrom_surjective _ p

/-- Positions that have `k` others before them are not among the first `k`. -/
theorem sorted_card {n : Nat} (key : Fin n → κ) (i : Fin n) {ι : Type} [Fintype ι] (e : ι → Fin n) (he : Function.Injective e)
    (hb : ∀ a, lex key (e a) (sortedFrom (lex key) i) = true) : Fintype.card ι ≤ i.val := by
  classical
  have hp : ∀ a, ∃ j, sortedFrom (lex key) j = e a := fun a => sorted_pos key (e a)
  choose q hq using hp
  have hlt : ∀ a, q a < i := fun a => by
    have := hb a
    rw [← hq a, sorted_before_iff] at this
    exact this
  have hi : Function.Injective fun a => (⟨(q a).val, hlt a⟩ : Fin i.val) := fun a b hab => by
    apply he
    rw [← hq a, ← hq b]
    congr 1
    exact Fin.ext (congrArg (fun x : Fin i.val => x.val) hab)
  simpa using Fintype.card_le_of_injective _ hi

end Cert.Nms

end
-- ==== Proof.Math.TopK.lean ====
/-
  Reading the host's top-k and sort along the second axis of a matrix at one entry.
-/
module

public import proofs.«01_k».proof.Proof.Math.Order
public import Idealize.ShloMosaic.PureOps.Ideal
public import Idealize.ShloMosaic.Lib.Pointwise

@[expose] public section

namespace Cert.Nms

open Idealize.ShloMosaic Idealize.ShloMosaic.Tactic

theorem along_ix2 {B n : Nat} (b : Fin B) (r k : Fin n) :
    Shape.Idx.along (s := ⟨2, ![B, n]⟩) (ix2 b r) 1 k = ix2 b k := by
  funext a
  match a with
  | ⟨0, _⟩ => exact Function.update_of_ne (f := (ix2 b r : (⟨2, ![B, n]⟩ : Shape).Idx)) (fun e => absurd (congrArg Fin.val e) Nat.zero_ne_one) _
  | ⟨1, _⟩ => exact Function.update_self (f := (ix2 b r : (⟨2, ![B, n]⟩ : Shape).Idx)) _ _

theorem gt_lex {n : Nat} (key : Fin n → EReal) :
    sortedFrom (fun k k' => FloatOps.cmpfTotal (F := Ideal) (φ := .f32) .gt (key k) (key k') == 1#1) = sortedFrom (lex key) := by
  rw [← sortedFrom_lex key]
  congr 1
  funext k k'
  rw [show FloatOps.cmpfTotal (F := Ideal) (φ := .f32) .gt (key k) (key k') = BitVec.ofBool (decide (key k' < key k)) from rfl]
  cases decide (key k' < key k) <;> rfl

/-- The positions a descending selection of the first entries of a row reads. -/
noncomputable def top {n : Nat} (key : Fin n → EReal) : Fin n → Fin n := sortedFrom (lex key)

/-- The first positions of a row. -/
theorem first_ix2 {α : Type} {B n k : Nat} (y : (⟨2, ![B, n]⟩ : Shape).Idx → α) (h : (⟨2, ![B, n]⟩ : Shape).Slices (fun _ => 0) ⟨2, ![B, k]⟩)
    (hk : k ≤ n) (b : Fin B) (r : Fin k) : extractStridedSlice ⟨2, ![B, k]⟩ (fun _ => 0) y h (ix2 b r) = y (ix2 b (r.castLE hk)) := by
  unfold extractStridedSlice
  refine congrArg y ?_
  funext a
  match a with
  | ⟨0, _⟩ => exact Fin.ext (Nat.zero_add _)
  | ⟨1, _⟩ => exact Fin.ext (Nat.zero_add _)

/-- The order of a row, read through its index. -/
theorem row_order {B n : Nat} (x : (⟨2, ![B, n]⟩ : Shape).Idx → Ideal .f32) (b : Fin B) (j : Fin n) :
    sortedFrom (fun k k' : Fin n => FloatOps.cmpfTotal (F := Ideal) (φ := .f32) .gt
        (x (Shape.Idx.along (s := ⟨2, ![B, n]⟩) (ix2 b j) 1 k)) (x (Shape.Idx.along (s := ⟨2, ![B, n]⟩) (ix2 b j) 1 k')) == 1#1) j
      = top (fun q => x (ix2 b q)) j := by
  unfold top
  rw [← gt_lex]
  refine congrFun (congrArg _ ?_) _
  funext k k'
  rw [along_ix2, along_ix2]

/-- A top-k's values: the row at the positions read. -/
theorem topK_vals {B n k : Nat} (x : (⟨2, ![B, n]⟩ : Shape).Idx → Ideal .f32) (h : (⟨2, ![B, n]⟩ : Shape).Slices (fun _ => 0) ⟨2, ![B, k]⟩)
    (hk : k ≤ n) (b : Fin B) (r : Fin k) :
    (Host.topK ⟨2, ![B, k]⟩ 1 (FloatOps.cmpfTotal (F := Ideal) (φ := .f32) .gt) x h).1 (ix2 b r)
      = x (ix2 b (top (fun q => x (ix2 b q)) (r.castLE hk))) := by
  unfold Host.topK
  dsimp only
  refine (first_ix2 _ h hk b r).trans ?_
  generalize r.castLE hk = j
  unfold Host.sort2
  simp only [show (1 : Nat) < (⟨2, ![B, n]⟩ : Shape).rank from (by decide : 1 < 2), dif_pos]
  refine (congrArg (fun p => x (Shape.Idx.along (s := ⟨2, ![B, n]⟩) (ix2 b j) 1 p)) (row_order x b j)).trans ?_
  exact congrArg x (along_ix2 b j _)

/-- A top-k's indices: the positions read, as words. -/
theorem topK_idx {B n k : Nat} (x : (⟨2, ![B, n]⟩ : Shape).Idx → Ideal .f32) (h : (⟨2, ![B, n]⟩ : Shape).Slices (fun _ => 0) ⟨2, ![B, k]⟩)
    (hk : k ≤ n) (b : Fin B) (r : Fin k) :
    (Host.topK ⟨2, ![B, k]⟩ 1 (FloatOps.cmpfTotal (F := Ideal) (φ := .f32) .gt) x h).2 (ix2 b r)
      = BitVec.ofNat 32 (top (fun q => x (ix2 b q)) (r.castLE hk)).val := by
  unfold Host.topK
  dsimp only
  refine (first_ix2 _ h hk b r).trans ?_
  generalize r.castLE hk = j
  unfold Host.sort2
  simp only [show (1 : Nat) < (⟨2, ![B, n]⟩ : Shape).rank from (by decide : 1 < 2), dif_pos]
  refine (congrArg (fun p => iotaInDim ⟨2, ![B, n]⟩ 32 1 (Shape.Idx.along (s := ⟨2, ![B, n]⟩) (ix2 b j) 1 p)) (row_order x b j)).trans ?_
  rw [along_ix2]
  rfl

/-- The positions an ascending sort of distinct numbers reads. -/
noncomputable def ascend {n N : Nat} (v : Fin n → Fin N) : Fin n → Fin n := sortedFrom (lex fun k => OrderDual.toDual (v k))

theorem ascend_strict {n N : Nat} (v : Fin n → Fin N) (hv : Function.Injective v) : StrictMono fun k => v (ascend v k) := by
  intro i j hij
  have h := sorted_before (fun k => OrderDual.toDual (v k)) hij
  unfold lex at h
  simp only [Bool.or_eq_true, decide_eq_true_eq, Bool.and_eq_true] at h
  rcases h with h | ⟨h, h'⟩
  · exact h
  · exact absurd (hv h) h'.ne

theorem ascend_surj {n N : Nat} (v : Fin n → Fin N) (p : Fin n) : ∃ k, ascend v k = p := sortedFrom_surjective _ p

/-- The order of a row of words holding small numbers, read through its index. -/
theorem word_order {B n N : Nat} (hN : N < 2 ^ 31) (x : (⟨2, ![B, n]⟩ : Shape).Idx → BitVec 32) (b : Fin B) (v : Fin n → Fin N)
    (hx : ∀ k, x (ix2 b k) = BitVec.ofNat 32 (v k).val) (j : Fin n) :
    sortedFrom (fun k k' : Fin n => IntOp.cmpi .slt (x (Shape.Idx.along (s := ⟨2, ![B, n]⟩) (ix2 b j) 1 k))
      (x (Shape.Idx.along (s := ⟨2, ![B, n]⟩) (ix2 b j) 1 k')) == 1#1) j = ascend v j := by
  have hs : ∀ a : Fin N, (BitVec.ofNat 32 a.val).toInt = a.val := fun a => by
    have := a.isLt
    rw [BitVec.toInt_eq_toNat_of_lt (by rw [BitVec.toNat_ofNat]; omega), BitVec.toNat_ofNat]
    omega
  unfold ascend
  rw [← sortedFrom_lex]
  refine congrFun (congrArg _ ?_) _
  funext k k'
  rw [along_ix2, along_ix2, hx, hx]
  unfold IntOp.cmpi
  simp only [BitVec.slt, hs]
  rw [show decide (OrderDual.toDual (v k') < OrderDual.toDual (v k)) = decide (((v k).val : Int) < ((v k').val : Int)) from by
    congr 1
    rw [OrderDual.toDual_lt_toDual, Fin.lt_def, Int.ofNat_lt]]
  cases decide (((v k).val : Int) < ((v k').val : Int)) <;> rfl

/-- An ascending sort of a row of words holding distinct small numbers. -/
theorem sort_words {B n N : Nat} (hN : N < 2 ^ 31) (x : (⟨2, ![B, n]⟩ : Shape).Idx → BitVec 32) (b : Fin B) (v : Fin n → Fin N)
    (hx : ∀ k, x (ix2 b k) = BitVec.ofNat 32 (v k).val) (r : Fin n) :
    Host.sort ⟨2, ![B, n]⟩ 1 (fun l r => IntOp.cmpi .slt l r) x (ix2 b r) = BitVec.ofNat 32 (v (ascend v r)).val := by
  unfold Host.sort
  simp only [show (1 : Nat) < (⟨2, ![B, n]⟩ : Shape).rank from (by decide : 1 < 2), dif_pos]
  refine (congrArg (fun p => x (Shape.Idx.along (s := ⟨2, ![B, n]⟩) (ix2 b r) 1 p)) (word_order hN x b v hx r)).trans ?_
  exact (congrArg x (along_ix2 b r _)).trans (hx _)

end Cert.Nms

end
-- ==== Proof.Math.Preselect.lean ====
/-
  Taking the best anchors first does not change the best (anchor, class) pairs: as many anchors are kept as pairs are asked
  for, every kept anchor has a class as good as its own score, and no pair is better than its anchor's score.
-/
module

public import proofs.«01_k».proof.Proof.Math.TopK

@[expose] public section

namespace Cert.Nms

open Idealize.ShloMosaic

variable {A C K : Nat} (hC : 0 < C)

/-- The flat position of a pair. -/
def flat {A : Nat} (a : Fin A) (c : Fin C) : Fin (A * C) :=
  ⟨a.val * C + c.val, by
    have h1 := a.isLt
    have h2 := c.isLt
    have : (a.val + 1) * C ≤ A * C := Nat.mul_le_mul_right C h1
    rw [Nat.add_mul, Nat.one_mul] at this
    omega⟩
/-- The anchor of a flat position. -/
def anchor {A : Nat} (q : Fin (A * C)) : Fin A := ⟨q.val / C, Nat.div_lt_of_lt_mul (lt_of_lt_of_eq q.isLt (Nat.mul_comm A C))⟩
/-- The class of a flat position. -/
def cls {A : Nat} (q : Fin (A * C)) : Fin C := ⟨q.val % C, Nat.mod_lt _ hC⟩

theorem flat_anchor_cls {A : Nat} (q : Fin (A * C)) : flat (anchor q) (cls hC q) = q :=
  Fin.ext (by show q.val / C * C + q.val % C = q.val; exact Nat.div_add_mod' _ _)
theorem anchor_flat {A : Nat} (a : Fin A) (c : Fin C) : anchor (flat a c) = a :=
  Fin.ext (by
    show (a.val * C + c.val) / C = a.val
    rw [Nat.mul_comm, Nat.mul_add_div (lt_of_le_of_lt (Nat.zero_le _) c.isLt), Nat.div_eq_of_lt c.isLt, Nat.add_zero])
theorem cls_flat {A : Nat} (a : Fin A) (c : Fin C) : cls hC (flat a c) = c :=
  Fin.ext (by
    show (a.val * C + c.val) % C = c.val
    rw [Nat.mul_comm, Nat.mul_add_mod, Nat.mod_eq_of_lt c.isLt])

theorem flat_lt {A : Nat} {a a' : Fin A} (h : a < a') (c c' : Fin C) : flat a c < flat a' c' := by
  show a.val * C + c.val < a'.val * C + c'.val
  have h' : a.val + 1 ≤ a'.val := h
  have h2 := c.isLt
  have : (a.val + 1) * C ≤ a'.val * C := Nat.mul_le_mul_right C h'
  rw [Nat.add_mul, Nat.one_mul] at this
  omega

theorem flat_lt_same {A : Nat} (a : Fin A) {c c' : Fin C} (h : c < c') : flat a c < flat a c' :=
  Nat.add_lt_add_left h _

/-- The kept anchors' pairs among all pairs. -/
def lift (ids : Fin K → Fin A) (q : Fin (K * C)) : Fin (A * C) := flat (ids (anchor q)) (cls hC q)

theorem lift_strict (ids : Fin K → Fin A) (hids : StrictMono ids) : StrictMono (lift hC ids) := by
  intro q q' h
  unfold lift
  rcases lt_trichotomy (anchor q) (anchor q') with e | e | e
  · exact flat_lt (hids e) _ _
  · rw [e]
    refine flat_lt_same _ ?_
    show q.val % C < q'.val % C
    have e' : q.val / C = q'.val / C := congrArg Fin.val e
    have h1 := Nat.div_add_mod' q.val C
    have h2 := Nat.div_add_mod' q'.val C
    have h3 : q.val < q'.val := h
    rw [e'] at h1
    omega
  · exact absurd h (not_lt.mpr (le_of_lt (by
      rw [← flat_anchor_cls hC q, ← flat_anchor_cls hC q']; exact flat_lt e _ _)))

theorem lex_lift (f : Fin (A * C) → EReal) (ids : Fin K → Fin A) (hids : StrictMono ids) (p q : Fin (K * C)) :
    lex (fun q => f (lift hC ids q)) p q = lex f (lift hC ids p) (lift hC ids q) := by
  unfold lex
  rw [show decide (p < q) = decide (lift hC ids p < lift hC ids q) from by
    congr 1; exact propext (lift_strict hC ids hids).lt_iff_lt.symm]

/-- Selecting among the kept anchors' pairs is selecting among all pairs, for as many as there are kept anchors. -/
theorem preselect (f : Fin (A * C) → EReal) (m : Fin A → EReal) (hle : ∀ a c, f (flat a c) ≤ m a) (hat : ∀ a, ∃ c : Fin C, f (flat a c) = m a)
    (hK : K ≤ A) (hKC : K ≤ K * C) (hKAC : K ≤ A * C) (ids : Fin K → Fin A) (hids : StrictMono ids)
    (hkept : ∀ p, ∃ r : Fin K, top m (r.castLE hK) = ids p) (hall : ∀ r : Fin K, ∃ p, ids p = top m (r.castLE hK)) (r : Fin K) :
    lift hC ids (top (fun q => f (lift hC ids q)) (r.castLE hKC)) = top f (r.castLE hKAC) := by
  classical
  have hl := lift_strict hC ids hids
  refine ((lex_strict f).sortedFrom_eq_of_prefix hKAC (fun i : Fin K => lift hC ids (top (fun q => f (lift hC ids q)) (i.castLE hKC))) ?_ ?_ ?_ r).symm
  · intro i j h
    have := sortedFrom_injective _ (hl.injective h)
    exact Fin.ext (congrArg (fun x : Fin (K * C) => x.val) this)
  · intro i j h
    rw [← lex_lift hC f ids hids]
    exact (lex_strict _).asymm _ _ (sorted_before (fun q => f (lift hC ids q)) (show i.castLE hKC < j.castLE hKC from h))
  · intro i p hp
    by_contra hb
    have hb : lex f p (lift hC ids (top (fun q => f (lift hC ids q)) (i.castLE hKC))) = true := by simpa using hb
    by_cases ha : ∃ k, ids k = anchor p
    · obtain ⟨k, hk⟩ := ha
      have hpq : lift hC ids (flat k (cls hC p)) = p := by
        unfold lift
        rw [anchor_flat, cls_flat, hk, flat_anchor_cls]
      obtain ⟨j, hj⟩ := sorted_pos (fun q => f (lift hC ids q)) (flat k (cls hC p))
      rw [← hpq, ← lex_lift hC f ids hids, ← hj] at hb
      have hji : j < i.castLE hKC := (sorted_before_iff (fun q => f (lift hC ids q))).mp hb
      have hjK : j.val < K := lt_trans (show j.val < i.val from hji) i.isLt
      refine hp ⟨j.val, hjK⟩ ?_
      show lift hC ids (top (fun q => f (lift hC ids q)) j) = p
      rw [← hpq]
      exact congrArg _ hj
    · have hbef : ∀ k, lex m (ids k) (anchor p) = true := fun k => by
        obtain ⟨r, hr⟩ := hkept k
        obtain ⟨s, hs⟩ := sorted_pos m (anchor p)
        rw [← hr, ← hs]
        refine sorted_before m ?_
        by_contra hc
        have hsr : s.val ≤ r.val := not_lt.mp hc
        obtain ⟨k', hk'⟩ := hall ⟨s.val, lt_of_le_of_lt hsr r.isLt⟩
        exact ha ⟨k', hk'.trans hs⟩
      have hbest : ∀ k, ∃ c : Fin C, f (flat (ids k) c) = m (ids k) := fun k => hat (ids k)
      choose best hbest using hbest
      have hcount := sorted_card (fun q => f (lift hC ids q)) (i.castLE hKC) (fun k : Fin K => flat k (best k))
        (fun k k' h => by
          have := congrArg (anchor (C := C)) h
          rwa [anchor_flat, anchor_flat] at this)
        (fun k => by
          rw [lex_lift hC f ids hids]
          refine (lex_strict f).trans _ _ _ ?_ hb
          have hk : lift hC ids (flat k (best k)) = flat (ids k) (best k) := by
            unfold lift; rw [anchor_flat, cls_flat]
          rw [hk]
          have h1 := hbef k
          unfold lex at h1 ⊢
          simp only [Bool.or_eq_true, decide_eq_true_eq, Bool.and_eq_true] at h1 ⊢
          have h2 : f p ≤ m (anchor p) := by
            conv_lhs => rw [← flat_anchor_cls hC p]
            exact hle _ _
          rw [hbest k]
          rcases h1 with h1 | ⟨h1, h1'⟩
          · exact Or.inl (lt_of_le_of_lt h2 h1)
          · rw [h1]
            rcases lt_or_eq_of_le h2 with h3 | h3
            · exact Or.inl h3
            · refine Or.inr ⟨h3.symm, ?_⟩
              rw [← flat_anchor_cls hC p]
              exact flat_lt h1' _ _)
      rw [Fintype.card_fin] at hcount
      exact absurd hcount (not_le.mpr i.isLt)

end Cert.Nms

end
-- ==== Proof.Math.Detect.lean ====
/-
  What both programs compute for one image: the best pairs of anchor and class, their boxes, the suppression among them, and
  the best of what is kept.
-/
module

public import proofs.«01_k».proof.Proof.Math.TopK
public import proofs.«01_k».proof.Proof.Math.Preselect
public import proofs.«01_k».proof.Proof.Sweep
public import Idealize.ShloMosaic.Lib.IdealHost

@[expose] public section

noncomputable section

namespace Cert.Nms

open Idealize.ShloMosaic

/-- The sigmoid, as the programs write it. -/
def sg (x : EReal) : EReal := Ideal.div 1 (1 + Ideal.exp (-x))

/-- Two corners of the decoded box of an anchor: the centre less (or plus) half the size. -/
def corner (hi : Bool) (x w g a s : EReal) : EReal :=
  let xy := (sg x * Ideal.ofBits .f32 1073741824#32 - Ideal.ofBits .f32 1056964608#32 + g) * s
  let half := Ideal.div (sg w * Ideal.ofBits .f32 1073741824#32 * (sg w * Ideal.ofBits .f32 1073741824#32) * a) (Ideal.ofBits .f32 1073741824#32)
  if hi then xy + half else xy - half

/-- Intersection over union of two boxes. -/
def iou (p q : Fin 4 → EReal) : EReal :=
  let inter := max 0 (min (p 2) (q 2) - max (p 0) (q 0)) * max 0 (min (p 3) (q 3) - max (p 1) (q 1))
  Ideal.div inter (max ((p 2 - p 0) * (p 3 - p 1) + (q 2 - q 0) * (q 3 - q 1) - inter) (Ideal.ofBits .f32 814313567#32))

/-- One image's head outputs, per anchor and channel. -/
abbrev Head := Fin 20000 → Fin 85 → EReal
/-- A table of two numbers per anchor. -/
abbrev Duo := Fin 20000 → Fin 2 → EReal

variable (X : Head) (G A S : Duo)

/-- The score of a pair of anchor and class. -/
def score (a : Fin 20000) (c : Fin 80) : EReal := sg (X a ⟨5 + c.val, by omega⟩) * sg (X a 4)
/-- The score at a flat position. -/
def flatScore (q : Fin 1600000) : EReal := score X ⟨q.val / 80, by omega⟩ ⟨q.val % 80, by omega⟩
/-- The decoded box of an anchor. -/
def box (a : Fin 20000) (k : Fin 4) : EReal :=
  match k with
  | 0 => corner false (X a 0) (X a 2) (G a 0) (A a 0) (S a 0)
  | 1 => corner false (X a 1) (X a 3) (G a 1) (A a 1) (S a 1)
  | 2 => corner true (X a 0) (X a 2) (G a 0) (A a 0) (S a 0)
  | 3 => corner true (X a 1) (X a 3) (G a 1) (A a 1) (S a 1)

/-- The flat position of the `r`-th best pair. -/
def pick (r : Fin 1000) : Fin 1600000 := top (flatScore X) (r.castLE (by omega))
/-- Its score. -/
def val (r : Fin 1000) : EReal := flatScore X (pick X r)
/-- Its anchor. -/
def anc (r : Fin 1000) : Fin 20000 := ⟨(pick X r).val / 80, by omega⟩
/-- Its class. -/
def lab (r : Fin 1000) : Nat := (pick X r).val % 80
/-- Its box. -/
def cand (r : Fin 1000) (k : Fin 4) : EReal := box X G A S (anc X r) k

/-! ## The suppression, of any boxes, scores and labels -/

variable (c : Fin 1000 → Fin 4 → EReal) (v : Fin 1000 → EReal) (l : Fin 1000 → Nat)

/-- The boxes moved apart by class. -/
def shift (r : Fin 1000) (k : Fin 4) : EReal :=
  c r k + FloatOps.sitofp (F := Ideal) .f32 (BitVec.ofNat 32 (l r)) * Ideal.ofBits .f32 1166016512#32
/-- A score is above the threshold. -/
def valid (r : Fin 1000) : Prop := Ideal.ofBits .f32 1028443341#32 < v r
/-- Two boxes overlap. -/
def over (i j : Fin 1000) : Prop := Ideal.ofBits .f32 1056964608#32 < iou (shift c l i) (shift c l j)
open Classical in
/-- The score of a kept box, `-1` for the others. -/
def sel (r : Fin 1000) : EReal := if keep (valid v) (over c l) r ∧ valid v r then v r else Ideal.ofBits .f32 3212836864#32
/-- The `s`-th best kept box. -/
def best (s : Fin 300) : Fin 1000 := top (sel c v l) (s.castLE (by omega))

end Cert.Nms

end
-- ==== Proof.Math.Take.lean ====
/-
  Reading a `take_along_axis`: a gather along axis 1 by a word that holds a position, jax's wrap of negative positions and its
  mask of positions out of range.
-/
module

public import Idealize.ShloMosaic.PureOps.Ideal
public import Idealize.ShloMosaic.Lib.Pointwise
public import Idealize.ShloMosaic.Lib.Tactic.WordOmega

@[expose] public section

namespace Cert.Nms

open Idealize.ShloMosaic Idealize.ShloMosaic.Tactic

variable {α : Type} {B N K C : Nat}

/-- A position's word, read signed. -/
theorem word_toInt {p : Nat} (hp : p < 2 ^ 31) : (BitVec.ofNat 32 p).toInt = p := by
  rw [BitVec.toInt_eq_toNat_of_lt (by rw [BitVec.toNat_ofNat]; omega), BitVec.toNat_ofNat]
  omega

/-- The gather of whole rows along axis 1. -/
abbrev take3 (wf : GatherDims.WF ⟨3, ![B, N, C]⟩ ⟨3, ![B, K, 1]⟩ ⟨3, ![B, K, C]⟩ [2] [1] [0] [1] [0] 2 ![1, 1, C]) : GatherDims ⟨3, ![B, N, C]⟩ ⟨3, ![B, K, 1]⟩ ⟨3, ![B, K, C]⟩ where
  offsetDims := [2]
  collapsedSliceDims := [1]
  operandBatchingDims := [0]
  startIndicesBatchingDims := [0]
  startIndexMap := [1]
  indexVectorDim := 2
  sliceSizes := ![1, 1, C]
  wf := wf

theorem gather3 (wf : GatherDims.WF ⟨3, ![B, N, C]⟩ ⟨3, ![B, K, 1]⟩ ⟨3, ![B, K, C]⟩ [2] [1] [0] [1] [0] 2 ![1, 1, C]) (x : (⟨3, ![B, N, C]⟩ : Shape).Idx → α) (idx : IVec ⟨3, ![B, K, 1]⟩ 32) (b : Fin B) (k : Fin K) (c : Fin C) (p : Fin N)
    (hN : N < 2 ^ 31) (hp : idx (ix3 b k (0 : Fin 1)) = BitVec.ofNat 32 p.val) :
    Host.gather (take3 wf) x idx (ix3 b k c) = x (ix3 b p c) := by
  unfold Host.gather
  refine congrArg x ?_
  funext a
  match a with
  | ⟨0, _⟩ =>
    apply Fin.ext
    show _ = b.val
    simp only [GatherDims.operandIdx]
    rw [GatherDims.start_batching _ _ _ _ (List.mem_singleton.mpr rfl), GatherDims.offCoord_eq_zero _ _ _ fun h => ((GatherDims.mem_sKept _ _).1 h).2 (List.mem_singleton.mpr rfl)]
    show 0 + b.val + 0 = b.val
    omega
  | ⟨1, h1⟩ =>
    apply Fin.ext
    show _ = p.val
    simp only [GatherDims.operandIdx]
    rw [GatherDims.batchCoord_eq_zero _ _ _ fun h => Nat.succ_ne_zero _ (congrArg Fin.val (List.mem_singleton.mp h)),
      GatherDims.offCoord_eq_zero _ _ _ fun h => ((GatherDims.mem_sKept _ _).1 h).1 (List.mem_singleton.mpr rfl)]
    unfold GatherDims.start
    have hmem : (⟨1, h1⟩ : Fin 3) ∈ (take3 (B := B) (N := N) (K := K) (C := C) wf).startIndexMap := List.mem_singleton.mpr rfl
    rw [dif_pos hmem]
    have hi : GatherDims.siIdx (take3 (B := B) (N := N) (K := K) (C := C) wf) (ix3 b k c) ⟨List.idxOf (1 : Fin 3) [1], Nat.one_pos⟩ = ix3 b k (0 : Fin 1) := by
      funext d
      match d with
      | ⟨0, _⟩ => rfl
      | ⟨1, _⟩ => rfl
      | ⟨2, _⟩ => rfl
    erw [hi]
    rw [hp, word_toInt (by have := p.isLt; omega)]
    show min p.val (N - 1) + 0 + 0 = p.val
    have := p.isLt
    omega
  | ⟨2, h2⟩ =>
    apply Fin.ext
    show _ = c.val
    simp only [GatherDims.operandIdx]
    rw [GatherDims.batchCoord_eq_zero _ _ _ fun h => Nat.succ_ne_zero _ (congrArg Fin.val (List.mem_singleton.mp h))]
    unfold GatherDims.start
    have hmem : (⟨2, h2⟩ : Fin 3) ∉ (take3 (B := B) (N := N) (K := K) (C := C) wf).startIndexMap := fun h => Nat.succ_ne_zero 0 (Nat.succ.inj (congrArg Fin.val (List.mem_singleton.mp h)))
    rw [dif_neg hmem]
    show 0 + 0 + c.val = c.val
    omega

/-- The gather of single elements along axis 1. -/
abbrev take2 (wf : GatherDims.WF ⟨2, ![B, N]⟩ ⟨3, ![B, K, 1]⟩ ⟨2, ![B, K]⟩ [] [1] [0] [1] [0] 2 ![1, 1]) : GatherDims ⟨2, ![B, N]⟩ ⟨3, ![B, K, 1]⟩ ⟨2, ![B, K]⟩ where
  offsetDims := []
  collapsedSliceDims := [1]
  operandBatchingDims := [0]
  startIndicesBatchingDims := [0]
  startIndexMap := [1]
  indexVectorDim := 2
  sliceSizes := ![1, 1]
  wf := wf

theorem gather2 (wf : GatherDims.WF ⟨2, ![B, N]⟩ ⟨3, ![B, K, 1]⟩ ⟨2, ![B, K]⟩ [] [1] [0] [1] [0] 2 ![1, 1]) (x : (⟨2, ![B, N]⟩ : Shape).Idx → α) (idx : IVec ⟨3, ![B, K, 1]⟩ 32) (b : Fin B) (k : Fin K) (p : Fin N)
    (hN : N < 2 ^ 31) (hp : idx (ix3 b k (0 : Fin 1)) = BitVec.ofNat 32 p.val) :
    Host.gather (take2 wf) x idx (ix2 b k) = x (ix2 b p) := by
  unfold Host.gather
  refine congrArg x ?_
  funext a
  match a with
  | ⟨0, _⟩ =>
    apply Fin.ext
    show _ = b.val
    simp only [GatherDims.operandIdx]
    rw [GatherDims.start_batching _ _ _ _ (List.mem_singleton.mpr rfl), GatherDims.offCoord_eq_zero _ _ _ fun h => ((GatherDims.mem_sKept _ _).1 h).2 (List.mem_singleton.mpr rfl)]
    show 0 + b.val + 0 = b.val
    omega
  | ⟨1, h1⟩ =>
    apply Fin.ext
    show _ = p.val
    simp only [GatherDims.operandIdx]
    rw [GatherDims.batchCoord_eq_zero _ _ _ fun h => Nat.succ_ne_zero _ (congrArg Fin.val (List.mem_singleton.mp h)),
      GatherDims.offCoord_eq_zero _ _ _ fun h => ((GatherDims.mem_sKept _ _).1 h).1 (List.mem_singleton.mpr rfl)]
    unfold GatherDims.start
    have hmem : (⟨1, h1⟩ : Fin 2) ∈ (take2 (B := B) (N := N) (K := K) wf).startIndexMap := List.mem_singleton.mpr rfl
    rw [dif_pos hmem]
    have hi : GatherDims.siIdx (take2 (B := B) (N := N) (K := K) wf) (ix2 b k) ⟨List.idxOf (1 : Fin 2) [1], Nat.one_pos⟩ = ix3 b k (0 : Fin 1) := by
      funext d
      match d with
      | ⟨0, _⟩ => rfl
      | ⟨1, _⟩ => rfl
      | ⟨2, _⟩ => rfl
    erw [hi]
    rw [hp, word_toInt (by have := p.isLt; omega)]
    show min p.val (N - 1) + 0 + 0 = p.val
    have := p.isLt
    omega

/-! ## The wrap and the mask -/

theorem slt_zero {p : Nat} (hp : p < 2 ^ 31) : IntOp.cmpi .slt (BitVec.ofNat 32 p) 0#32 = 0#1 := by
  unfold IntOp.cmpi
  simp only [BitVec.slt, word_toInt hp]
  rw [decide_eq_false (by simp)]
  rfl

/-- A position is not negative: nothing is added to it. -/
theorem wrap_word {p : Nat} (hp : p < 2 ^ 31) (y : BitVec 32) :
    Scalar.select (IntOp.cmpi .slt (BitVec.ofNat 32 p) 0#32) y (BitVec.ofNat 32 p) = BitVec.ofNat 32 p := by
  rw [slt_zero hp]
  rfl

/-- A position in range passes the mask. -/
theorem mask_word {p n : Nat} (hp : p ≤ n) (hn : n < 2 ^ 31) :
    IntOp.andi (IntOp.cmpi .sge (BitVec.ofNat 32 p) 0#32) (IntOp.cmpi .sle (BitVec.ofNat 32 p) (BitVec.ofNat 32 n)) = 1#1 := by
  unfold IntOp.cmpi
  simp only [BitVec.sle, word_toInt hn, word_toInt (lt_of_le_of_lt hp hn)]
  rw [decide_eq_true (by simp), decide_eq_true (by exact_mod_cast hp)]
  rfl

/-- The mask's fold over the one coordinate of an index vector. -/
theorem fold_one (f : Fin 1 → BitVec 1) (h : f 0 = 1#1) : Finset.fold IntOp.andi (1#1) f Finset.univ = 1#1 := by
  rw [show (Finset.univ : Finset (Fin 1)) = {0} from rfl, Finset.fold_singleton, h]
  rfl

/-! ## Quotient and remainder by the number of classes -/

theorem corner_80 (x : BitVec 32) : ¬ IntOp.SDivCorner x 80#32 := by
  unfold IntOp.SDivCorner
  simp

theorem msb_small {p : Nat} (hp : p < 2 ^ 31) : (BitVec.ofNat 32 p).msb = false := by
  rw [BitVec.msb_eq_decide, BitVec.toNat_ofNat]
  exact decide_eq_false (by omega)

theorem sdiv_80 {p : Nat} (hp : p < 2 ^ 31) : IntOp.divsi .host (BitVec.ofNat 32 p) 80#32 = BitVec.ofNat 32 (p / 80) := by
  unfold IntOp.divsi
  rw [if_neg (corner_80 _), BitVec.sdiv_eq, msb_small hp, msb_small (p := 80) (by decide)]
  refine BitVec.eq_of_toNat_eq ?_
  show ((BitVec.ofNat 32 p) / 80#32).toNat = _
  rw [BitVec.toNat_udiv, BitVec.toNat_ofNat, BitVec.toNat_ofNat, BitVec.toNat_ofNat, Nat.mod_eq_of_lt (show p < 2 ^ 32 by omega),
    Nat.mod_eq_of_lt (show p / 80 < 2 ^ 32 by omega), Nat.mod_eq_of_lt (show 80 < 2 ^ 32 by decide)]

theorem srem_80 {p : Nat} (hp : p < 2 ^ 31) : IntOp.remsi .host (BitVec.ofNat 32 p) 80#32 = BitVec.ofNat 32 (p % 80) := by
  unfold IntOp.remsi
  rw [if_neg (corner_80 _), BitVec.srem_eq, msb_small hp, msb_small (p := 80) (by decide)]
  refine BitVec.eq_of_toNat_eq ?_
  show ((BitVec.ofNat 32 p) % 80#32).toNat = _
  rw [BitVec.toNat_umod, BitVec.toNat_ofNat, BitVec.toNat_ofNat, BitVec.toNat_ofNat, Nat.mod_eq_of_lt (show p < 2 ^ 32 by omega),
    Nat.mod_eq_of_lt (show p % 80 < 2 ^ 32 by omega), Nat.mod_eq_of_lt (show 80 < 2 ^ 32 by decide)]

/-- jax's floor division of a position by the number of classes. -/
theorem floor_div_80 {p : Nat} (hp : p < 2 ^ 31) (s t : BitVec 32) (hs : p ≠ 0 → s = 1#32) (ht : t = 1#32) :
    Scalar.select (IntOp.andi (IntOp.cmpi .ne s t) (IntOp.cmpi .ne (IntOp.remsi .host (BitVec.ofNat 32 p) 80#32) 0#32))
      (IntOp.subi (IntOp.divsi .host (BitVec.ofNat 32 p) 80#32) 1#32) (IntOp.divsi .host (BitVec.ofNat 32 p) 80#32)
      = BitVec.ofNat 32 (p / 80) := by
  rw [sdiv_80 hp, srem_80 hp]
  by_cases h0 : p = 0
  · subst h0
    have : IntOp.cmpi .ne (BitVec.ofNat 32 (0 % 80)) 0#32 = 0#1 := rfl
    rw [this, show ∀ w : BitVec 1, IntOp.andi w 0#1 = 0#1 from fun w => BitVec.and_zero]
    rfl
  · rw [hs h0, ht]
    have : IntOp.cmpi .ne (1#32) (1#32) = 0#1 := rfl
    rw [this, show ∀ w : BitVec 1, IntOp.andi 0#1 w = 0#1 from fun w => BitVec.zero_and]
    rfl

/-- jax's remainder of a position by the number of classes. -/
theorem rem_80 {p : Nat} (hp : p < 2 ^ 31) :
    Scalar.select (IntOp.andi (IntOp.cmpi .ne (IntOp.cmpi .slt (IntOp.remsi .host (BitVec.ofNat 32 p) 80#32) 0#32) (IntOp.cmpi .slt 80#32 0#32))
        (IntOp.cmpi .ne (IntOp.remsi .host (BitVec.ofNat 32 p) 80#32) 0#32))
      (IntOp.addi (IntOp.remsi .host (BitVec.ofNat 32 p) 80#32) 80#32) (IntOp.remsi .host (BitVec.ofNat 32 p) 80#32)
      = BitVec.ofNat 32 (p % 80) := by
  rw [srem_80 hp, slt_zero (by omega)]
  have h1 : IntOp.cmpi .slt 80#32 0#32 = 0#1 := rfl
  have h2 : IntOp.cmpi .ne 0#1 0#1 = 0#1 := rfl
  rw [h1, h2, show ∀ w : BitVec 1, IntOp.andi 0#1 w = 0#1 from fun w => BitVec.zero_and]
  rfl

end Cert.Nms

end
-- ==== Proof.K.Read.lean ====
/-
  The kernel program's host operations read at an index, for any arrays before them: the anchors it keeps, the pairs it
  picks among them, the rows it gives to the suppression, and the best of what is kept.
-/
module

public import proofs.«01_k».proof.Proof.Gen.KernelIdeal.Regions
public import proofs.«01_k».proof.Proof.Math.Detect
public import proofs.«01_k».proof.Proof.Math.Take
public import Idealize.ShloMosaic.Lib.StableHlo.ReadAt
public import Idealize.ShloMosaic.Lib.Pointwise
public import Idealize.ShloMosaic.PureOps.Ideal

@[expose] public section

namespace Cert.KernelIdeal.Hand
open Idealize.ShloMosaic Idealize.ShloMosaic.Tactic Cert.KernelIdeal Cert.KernelIdeal.Gen StableHlo Cert.Nms

variable (V : Valuation τ sig (Elt Ideal))

/-- The best class score of an anchor, as the first call left it. -/
abbrev bestAt (b : Fin 16) (a : Fin 20000) : EReal := V (Proc.devRef .tc main_v0_0) (ix3 b (⟨a.val / 2000, by omega⟩ : Fin 10) (⟨a.val % 2000, by omega⟩ : Fin 2000))

/-- The best anchors. -/
theorem indices_at (b : Fin 16) (r : Fin 1000) :
    after hostOps1 V (Proc.devRef .tc main_indices) (ix2 b r) = BitVec.ofNat 32 (top (bestAt V b) (r.castLE (by decide))).val := by
  after_reads_at
  exact topK_idx _ _ (by decide) b r

/-- The boxes, one row per anchor. -/
theorem v2_at (b : Fin 16) (a : Fin 20000) (k : Fin 4) : after hostOps1 V (Proc.devRef .tc main_v2) (ix3 b a k)
    = V (Proc.devRef .tc main_v0_1) (ix4 b (⟨a.val / 2000, by omega⟩ : Fin 10) (⟨a.val % 2000, by omega⟩ : Fin 2000) k) := by
  after_reads_at

/-- The best anchors in increasing order. -/
theorem v3_at (b : Fin 16) (v : Fin 1000 → Fin 20000) (hv : Function.Injective v)
    (hx : ∀ r, V (Proc.devRef .tc main_indices) (ix2 b r) = BitVec.ofNat 32 (v r).val) (r : Fin 1000) :
    after hostOps1_1 V (Proc.devRef .tc main_v3) (ix2 b r) = BitVec.ofNat 32 (v (ascend v r)).val := by
  after_reads_at
  exact sort_words (by decide) _ b v hx r

theorem v4_at (b : Fin 16) (r : Fin 1000) :
    after hostOps1_2 V (Proc.devRef .tc main_v4) (ix3 b r (0 : Fin 1)) = V (Proc.devRef .tc main_v3) (ix2 b r) := by
  after_reads_at

/-- The kept anchors' head outputs. -/
theorem v5_at (b : Fin 16) (r : Fin 1000) (k : Fin 85) (p : Fin 20000)
    (hi : V (Proc.devRef .tc main_v4) (ix3 b r (0 : Fin 1)) = BitVec.ofNat 32 p.val) :
    after hostOps1_3 V (Proc.devRef .tc main_v5) (ix3 b r k) = V (Proc.devRef .tc main_arg0) (ix3 b p k) := by
  have hp := p.isLt
  after_reads_at
  rw [fold_one _ (by rw [hi, wrap_word (by omega)]; exact mask_word (by omega) (by decide))]
  refine gather3 _ _ _ b r k p (by decide) ?_
  pointwise
  rw [hi, wrap_word (by omega)]

theorem v6_at (b : Fin 16) (r : Fin 1000) :
    after hostOps1_4 V (Proc.devRef .tc main_v6) (ix3 b r (0 : Fin 1)) = V (Proc.devRef .tc main_v3) (ix2 b r) := by
  after_reads_at

/-- The kept anchors' boxes. -/
theorem v7_at (b : Fin 16) (r : Fin 1000) (k : Fin 4) (p : Fin 20000)
    (hi : V (Proc.devRef .tc main_v6) (ix3 b r (0 : Fin 1)) = BitVec.ofNat 32 p.val) :
    after hostOps1_5 V (Proc.devRef .tc main_v7) (ix3 b r k) = V (Proc.devRef .tc main_v2) (ix3 b p k) := by
  have hp := p.isLt
  after_reads_at
  rw [fold_one _ (by rw [hi, wrap_word (by omega)]; exact mask_word (by omega) (by decide))]
  refine gather3 _ _ _ b r k p (by decide) ?_
  pointwise
  rw [hi, wrap_word (by omega)]

/-- A kept anchor's head outputs, as numbers. -/
abbrev keptAt (b : Fin 16) (r : Fin 1000) (k : Fin 85) : EReal := V (Proc.devRef .tc main_v5) (ix3 b r k)
/-- The score of a kept anchor and class at a flat position. -/
noncomputable abbrev pairAt (b : Fin 16) (q : Fin 80000) : EReal :=
  sg (keptAt V b ⟨q.val / 80, by omega⟩ ⟨5 + q.val % 80, by omega⟩) * sg (keptAt V b ⟨q.val / 80, by omega⟩ 4)

/-- The best pairs' scores. -/
theorem values1_at (b : Fin 16) (r : Fin 1000) :
    after hostOps1_6 V (Proc.devRef .tc main_values_1) (ix2 b r) = pairAt V b (top (pairAt V b) (r.castLE (by decide))) := by
  after_reads_at
  refine (topK_vals _ _ (by decide) b r).trans ?_
  rfl
/-- The best pairs' flat positions. -/
theorem indices2_at (b : Fin 16) (r : Fin 1000) :
    after hostOps1_6 V (Proc.devRef .tc main_indices_2) (ix2 b r) = BitVec.ofNat 32 (top (pairAt V b) (r.castLE (by decide))).val := by
  after_reads_at
  exact topK_idx _ _ (by decide) b r
theorem c80_at : after hostOps1_6 V (Proc.devRef .tc main_c) ix0 = 80#32 := by
  after_reads_at

/-- The best pairs' classes. -/
theorem rem_at (b : Fin 16) (r : Fin 1000) (p : Nat) (hp : p < 2 ^ 31) (hi : V (Proc.devRef .tc main_indices_2) (ix2 b r) = BitVec.ofNat 32 p)
    (hc : V (Proc.devRef .tc main_c) ix0 = 80#32) :
    after hostOps1_7 V (Proc.devRef .tc main_v19) (ix2 b r) = BitVec.ofNat 32 (p % 80) := by
  after_reads_at
  simp only [id_eq, hi, hc]
  exact rem_80 hp
theorem c80b_at : after hostOps1_8 V (Proc.devRef .tc main_c_3) ix0 = 80#32 := by
  after_reads_at

/-- The best pairs' places among the kept anchors. -/
theorem quot_at (b : Fin 16) (r : Fin 1000) (p : Nat) (hp : p < 2 ^ 31) (hi : V (Proc.devRef .tc main_indices_2) (ix2 b r) = BitVec.ofNat 32 p)
    (hc : V (Proc.devRef .tc main_c_3) ix0 = 80#32) :
    after hostOps1_9 V (Proc.devRef .tc main_v20) (ix2 b r) = BitVec.ofNat 32 (p / 80) := by
  after_reads_at
  simp only [id_eq, hi, hc]
  refine floor_div_80 hp _ _ (fun h0 => ?_) rfl
  rw [if_neg (fun e => h0 (by have := congrArg BitVec.toNat e; rw [BitVec.toNat_ofNat] at this; simp at this; omega)), msb_small hp]
  rfl

theorem v21_at (b : Fin 16) (r : Fin 1000) :
    after hostOps1_10 V (Proc.devRef .tc main_v21) (ix3 b r (0 : Fin 1)) = V (Proc.devRef .tc main_v20) (ix2 b r) := by
  after_reads_at

/-- The best pairs' boxes. -/
theorem v22_at (b : Fin 16) (r : Fin 1000) (k : Fin 4) (p : Fin 1000)
    (hi : V (Proc.devRef .tc main_v21) (ix3 b r (0 : Fin 1)) = BitVec.ofNat 32 p.val) :
    after hostOps1_11 V (Proc.devRef .tc main_v22) (ix3 b r k) = V (Proc.devRef .tc main_v7) (ix3 b p k) := by
  have hp := p.isLt
  after_reads_at
  rw [fold_one _ (by rw [hi, wrap_word (by omega)]; exact mask_word (by omega) (by decide))]
  refine gather3 _ _ _ b r k p (by decide) ?_
  pointwise
  rw [hi, wrap_word (by omega)]

/-- The threshold on the scores. -/
theorem v24_at (b : Fin 16) (r : Fin 1000) : after hostOps1_12 V (Proc.devRef .tc main_v24) (ix2 b r)
    = BitVec.ofBool (decide (Ideal.ofBits .f32 1028443341#32 < V (Proc.devRef .tc main_values_1) (ix2 b r))) := by
  after_reads_at

/-- A best pair's box, as numbers. -/
abbrev v22 (b : Fin 16) (r : Fin 1000) (k : Fin 4) : EReal := V (Proc.devRef .tc main_v22) (ix3 b r k)
/-- The boxes moved by class. -/
theorem v30_at (b : Fin 16) (r : Fin 1000) (k : Fin 4) : after hostOps1_12 V (Proc.devRef .tc main_v30) (ix3 b r k)
    = v22 V b r k + FloatOps.sitofp (F := Ideal) .f32 (V (Proc.devRef .tc main_v19) (ix2 b r)) * Ideal.ofBits .f32 1166016512#32 := by
  after_reads_at

/-- The moved boxes with more rows after them. -/
theorem v31_at (b : Fin 16) (r : Fin 1024) (k : Fin 4) (h : r.val < 1000) : after hostOps1_13 V (Proc.devRef .tc main_v31) (ix3 b r k)
    = V (Proc.devRef .tc main_v30) (ix3 b (⟨r.val, h⟩ : Fin 1000) k) := by
  after_reads_at
  exact dif_pos h

/-- The moved boxes by columns. -/
theorem v32_at (b : Fin 16) (r : Fin 1024) (k : Fin 4) : after hostOps1_14 V (Proc.devRef .tc main_v32) (ix3 b k r)
    = V (Proc.devRef .tc main_v31) (ix3 b r k) := by
  after_reads_at
theorem c0_at : after hostOps1_14 V (Proc.devRef .tc main_c_7) ix0 = 0#32 := by
  after_reads_at
/-- The threshold's row with more places after it. -/
theorem v33_at (b : Fin 16) (r : Fin 1024) (hc : V (Proc.devRef .tc main_c_7) ix0 = 0#32) : after hostOps1_15 V (Proc.devRef .tc main_v33) (ix2 b r)
    = if h : r.val < 1000 then V (Proc.devRef .tc main_v24) (ix2 b (⟨r.val, h⟩ : Fin 1000)) else 0#1 := by
  after_reads_at
  simp only [id_eq]
  refine dite_congr rfl (fun _ => rfl) fun _ => ?_
  show IntOp.cmpi .ne (V (Proc.devRef .tc main_c_7) (Shape.Idx.first h_S_)) 0#32 = 0#1
  rw [show (Shape.Idx.first h_S_ : S_.Idx) = ix0 from funext fun a => a.elim0, hc]
  rfl
theorem v35_at (b : Fin 16) (r : Fin 1024) : after hostOps1_16 V (Proc.devRef .tc main_v35) (ix3 b (0 : Fin 1) r)
    = FloatOps.uitofp (F := Ideal) .f32 (V (Proc.devRef .tc main_v33) (ix2 b r)) := by
  after_reads_at

/-- The suppression's row, as numbers. -/
abbrev v36 (b : Fin 16) (r : Fin 1024) : EReal := V (Proc.devRef .tc main_v36) (ix3 b (0 : Fin 1) r)
/-- What is kept and above the threshold. -/
theorem v41_at (b : Fin 16) (r : Fin 1000) : after hostOps2 V (Proc.devRef .tc main_v41) (ix2 b r)
    = IntOp.andi (BitVec.ofBool (decide (Ideal.ofBits .f32 1056964608#32 < v36 V b (r.castLE (by decide))))) (V (Proc.devRef .tc main_v24) (ix2 b r)) := by
  after_reads_at
  rfl
theorem cst9_at : after hostOps2 V (Proc.devRef .tc main_cst_9) ix0 = Ideal.ofBits .f32 3212836864#32 := by
  after_reads_at

/-- The kept scores. -/
theorem v42_at (b : Fin 16) (r : Fin 1000) : after hostOps2_1 V (Proc.devRef .tc main_v42) (ix2 b r)
    = Scalar.select (V (Proc.devRef .tc main_v41) (ix2 b r)) (V (Proc.devRef .tc main_values_1) (ix2 b r)) (V (Proc.devRef .tc main_cst_9) ix0) := by
  after_reads_at
  rfl

/-- The positions of the best of them. -/
theorem indices11_at (b : Fin 16) (s : Fin 300) : after hostOps2_2 V (Proc.devRef .tc main_indices_11) (ix2 b s)
    = BitVec.ofNat 32 (top (fun q => V (Proc.devRef .tc main_v42) (ix2 b q)) (s.castLE (by decide))).val := by
  after_reads_at
  exact topK_idx _ _ (by decide) b s
theorem v43_at (b : Fin 16) (s : Fin 300) : after hostOps2_2 V (Proc.devRef .tc main_v43) (ix3 b s (0 : Fin 1))
    = BitVec.ofNat 32 (top (fun q => V (Proc.devRef .tc main_v42) (ix2 b q)) (s.castLE (by decide))).val := by
  after_reads_at
  exact topK_idx _ _ (by decide) b s

/-- The boxes returned. -/
theorem v44_at (b : Fin 16) (s : Fin 300) (k : Fin 4) (p : Fin 1000)
    (hi : V (Proc.devRef .tc main_v43) (ix3 b s (0 : Fin 1)) = BitVec.ofNat 32 p.val) :
    after hostOps2_3 V (Proc.devRef .tc main_v44) (ix3 b s k) = V (Proc.devRef .tc main_v22) (ix3 b p k) := by
  have hp := p.isLt
  after_reads_at
  rw [fold_one _ (by rw [hi, wrap_word (by omega)]; exact mask_word (by omega) (by decide))]
  refine gather3 _ _ _ b s k p (by decide) ?_
  pointwise
  rw [hi, wrap_word (by omega)]

/-- The scores returned. -/
theorem v45_at (b : Fin 16) (s : Fin 300) (p : Fin 1000)
    (hi : V (Proc.devRef .tc main_indices_11) (ix2 b s) = BitVec.ofNat 32 p.val) :
    after hostOps2_4 V (Proc.devRef .tc main_v45) (ix2 b s) = V (Proc.devRef .tc main_v42) (ix2 b p) := by
  have hp := p.isLt
  after_reads_at
  rw [fold_one _ (by rw [hi, wrap_word (by omega)]; exact mask_word (by omega) (by decide))]
  refine gather2 _ _ _ b s p (by decide) ?_
  pointwise
  rw [hi, wrap_word (by omega)]

/-- The classes returned. -/
theorem v46_at (b : Fin 16) (s : Fin 300) (p : Fin 1000)
    (hi : V (Proc.devRef .tc main_indices_11) (ix2 b s) = BitVec.ofNat 32 p.val) :
    after hostOps2_5 V (Proc.devRef .tc main_v46) (ix2 b s) = V (Proc.devRef .tc main_v19) (ix2 b p) := by
  have hp := p.isLt
  after_reads_at
  rw [fold_one _ (by rw [hi, wrap_word (by omega)]; exact mask_word (by omega) (by decide))]
  refine gather2 _ _ _ b s p (by decide) ?_
  pointwise
  rw [hi, wrap_word (by omega)]

end Cert.KernelIdeal.Hand
end
-- ==== Proof.K.Blocks.lean ====
/-
  The blocks that the two calls read, as entries of the arrays they are cut from.
-/
module

public import proofs.«01_k».proof.Proof.K.Result0
public import proofs.«01_k».proof.Proof.K.Region1

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (V : Dev nD → Valuation τ sig (Elt Ideal))

/-- The blocks of the head outputs. -/
theorem idx00 : ∀ t : Fin grid0.N, win0_0.index t = ![t.val / 10, t.val % 10, 0] := by decide +kernel
/-- The blocks of the grid's table. -/
theorem idx01 : ∀ t : Fin grid0.N, win0_1.index t = ![t.val % 10, 0] := by decide +kernel
/-- The blocks of the anchors' table. -/
theorem idx02 : ∀ t : Fin grid0.N, win0_2.index t = ![t.val % 10, 0] := by decide +kernel
/-- The blocks of the strides' table. -/
theorem idx03 : ∀ t : Fin grid0.N, win0_3.index t = ![t.val % 10, 0] := by decide +kernel
/-- The blocks of the moved boxes. -/
theorem idx10 : ∀ t : Fin grid1.N, win1_0.index t = ![t.val, 0, 0] := by decide +kernel
/-- The blocks of the moved boxes by columns. -/
theorem idx11 : ∀ t : Fin grid1.N, win1_1.index t = ![t.val, 0, 0] := by decide +kernel
/-- The blocks of the threshold's row. -/
theorem idx12 : ∀ t : Fin grid1.N, win1_2.index t = ![t.val, 0, 0] := by decide +kernel

/-- An image and a chunk give back themselves. -/
theorem pt_div (b : Fin 16) (r : Fin 10) : (pt b r).val / 10 = b.val := by show (10 * b.val + r.val) / 10 = b.val; omega
theorem pt_mod (b : Fin 16) (r : Fin 10) : (pt b r).val % 10 = r.val := by show (10 * b.val + r.val) % 10 = r.val; omega

/-- An anchor from its chunk and its place there. -/
def place (r : Fin 10) (i : Fin 2000) : Fin 20000 := ⟨2000 * r.val + i.val, by omega⟩

theorem iblk0_0 (c : Dev nD) (b : Fin 16) (r : Fin 10) (i : Fin 2000) (k : Fin 85) :
    iblk0 V c 0 (pt b r) (ix3 (0 : Fin 1) i k) = V c (Proc.devRef .tc main_arg0) (ix3 b (place r i) k) := by
  have hd := pt_div b r
  have hm := pt_mod b r
  have e : (win0_0.blk (pt b r)).view.emb (ix3 (0 : Fin 1) i k) = ix3 b (place r i) k := by
    blk_ext [idx00 (pt b r), hd, hm, place]
  exact congrArg (V c (Proc.devRef .tc main_arg0)) e
theorem iblk0_1 (c : Dev nD) (b : Fin 16) (r : Fin 10) (i : Fin 2000) (k : Fin 2) :
    iblk0 V c 1 (pt b r) (ix2 i k) = V c (Proc.devRef .tc main_arg1) (ix2 (place r i) k) := by
  have hm := pt_mod b r
  have e : (win0_1.blk (pt b r)).view.emb (ix2 i k) = ix2 (place r i) k := by
    blk_ext [idx01 (pt b r), hm, place]
  exact congrArg (V c (Proc.devRef .tc main_arg1)) e
theorem iblk0_2 (c : Dev nD) (b : Fin 16) (r : Fin 10) (i : Fin 2000) (k : Fin 2) :
    iblk0 V c 2 (pt b r) (ix2 i k) = V c (Proc.devRef .tc main_arg2) (ix2 (place r i) k) := by
  have hm := pt_mod b r
  have e : (win0_2.blk (pt b r)).view.emb (ix2 i k) = ix2 (place r i) k := by
    blk_ext [idx02 (pt b r), hm, place]
  exact congrArg (V c (Proc.devRef .tc main_arg2)) e
theorem iblk0_3 (c : Dev nD) (b : Fin 16) (r : Fin 10) (i : Fin 2000) (k : Fin 2) :
    iblk0 V c 3 (pt b r) (ix2 i k) = V c (Proc.devRef .tc main_arg3) (ix2 (place r i) k) := by
  have hm := pt_mod b r
  have e : (win0_3.blk (pt b r)).view.emb (ix2 i k) = ix2 (place r i) k := by
    blk_ext [idx03 (pt b r), hm, place]
  exact congrArg (V c (Proc.devRef .tc main_arg3)) e

theorem iblk1_0 (c : Dev nD) (b : Fin 16) (r : Fin 1024) (k : Fin 4) :
    iblk1 V c 0 (pt1 b) (ix3 (0 : Fin 1) r k) = V c (Proc.devRef .tc main_v31) (ix3 b r k) := by
  have e : (win1_0.blk (pt1 b)).view.emb (ix3 (0 : Fin 1) r k) = ix3 b r k := by
    blk_ext [idx10 (pt1 b), show (pt1 b).val = b.val from rfl]
  exact congrArg (V c (Proc.devRef .tc main_v31)) e
theorem iblk1_1 (c : Dev nD) (b : Fin 16) (r : Fin 1024) (k : Fin 4) :
    iblk1 V c 1 (pt1 b) (ix3 (0 : Fin 1) k r) = V c (Proc.devRef .tc main_v32) (ix3 b k r) := by
  have e : (win1_1.blk (pt1 b)).view.emb (ix3 (0 : Fin 1) k r) = ix3 b k r := by
    blk_ext [idx11 (pt1 b), show (pt1 b).val = b.val from rfl]
  exact congrArg (V c (Proc.devRef .tc main_v32)) e
theorem iblk1_2 (c : Dev nD) (b : Fin 16) (r : Fin 1024) :
    iblk1 V c 2 (pt1 b) (ix3 (0 : Fin 1) (0 : Fin 1) r) = V c (Proc.devRef .tc main_v35) (ix3 b (0 : Fin 1) r) := by
  have e : (win1_2.blk (pt1 b)).view.emb (ix3 (0 : Fin 1) (0 : Fin 1) r) = ix3 b (0 : Fin 1) r := by
    blk_ext [idx12 (pt1 b), show (pt1 b).val = b.val from rfl]
  exact congrArg (V c (Proc.devRef .tc main_v35)) e

end Cert.KernelIdeal.Hand

end
-- ==== Proof.Math.Score.lean ====
/-
  The scores and boxes of an anchor: an anchor's best class is the best of its scores, and half of a number is its half.
-/
module

public import proofs.«01_k».proof.Proof.Math.Detect

@[expose] public section

noncomputable section

namespace Cert.Nms

open Idealize.ShloMosaic

/-- The exponential is not negative. -/
theorem exp_nonneg (x : EReal) : 0 ≤ Ideal.exp x := by
  induction x using EReal.rec with
  | bot => exact le_rfl
  | top => exact le_top
  | coe r => exact EReal.coe_nonneg.mpr (Real.exp_pos r).le

/-- The sigmoid is not negative. -/
theorem sg_nonneg (x : EReal) : 0 ≤ sg x := by
  have h : (0 : EReal) < 1 + Ideal.exp (-x) := lt_of_lt_of_le zero_lt_one (le_add_of_nonneg_right (exp_nonneg _))
  unfold sg Ideal.div
  rw [if_neg h.ne', one_mul]
  exact EReal.inv_nonneg_of_nonneg h.le

/-- The largest of finitely many numbers. -/
theorem fold_attained (f : Fin 80 → EReal) : ∃ c, Finset.fold max (Ideal.ofBits .f32 4286578688#32) f Finset.univ = f c ∧ ∀ d, f d ≤ f c := by
  obtain ⟨c, _, hc⟩ := Finset.exists_max_image Finset.univ f ⟨0, Finset.mem_univ _⟩
  refine ⟨c, le_antisymm ((Finset.fold_max_le _).2 ⟨?_, fun d hd => hc d hd⟩) ((Finset.le_fold_max _).2 (Or.inr ⟨c, Finset.mem_univ _, le_rfl⟩)), fun d => hc d (Finset.mem_univ _)⟩
  have : Ideal.ofBits .f32 4286578688#32 = ⊥ := by simp [Ideal.ofBits, Ideal.ieee]
  rw [this]; exact bot_le

/-- An anchor's best score, as the first call computes it. -/
def most (X : Head) (a : Fin 20000) : EReal :=
  Finset.fold max (Ideal.ofBits .f32 4286578688#32) (fun c : Fin 80 => sg (X a ⟨5 + c.val, by omega⟩)) Finset.univ * sg (X a 4)

/-- No score of an anchor is above its best. -/
theorem score_le (X : Head) (a : Fin 20000) (c : Fin 80) : score X a c ≤ most X a := by
  obtain ⟨d, hd, hm⟩ := fold_attained fun c : Fin 80 => sg (X a ⟨5 + c.val, by omega⟩)
  unfold score most
  rw [hd]
  exact mul_le_mul_of_nonneg_right (hm c) (sg_nonneg _)
/-- Some score of an anchor is its best. -/
theorem score_at (X : Head) (a : Fin 20000) : ∃ c, score X a c = most X a := by
  obtain ⟨d, hd, _⟩ := fold_attained fun c : Fin 80 => sg (X a ⟨5 + c.val, by omega⟩)
  exact ⟨d, by unfold score most; rw [hd]⟩

theorem two_bits : Ideal.ofBits .f32 1073741824#32 = ((2 : ℝ) : EReal) := by
  simp [Ideal.ofBits, Ideal.ieee, -EReal.coe_mul]; norm_num
theorem half_bits : Ideal.ofBits .f32 1056964608#32 = ((2⁻¹ : ℝ) : EReal) := by
  simp [Ideal.ofBits, Ideal.ieee, -EReal.coe_mul]; norm_num

/-- Multiplying by a half is dividing by two. -/
theorem mul_half (x : EReal) : x * Ideal.ofBits .f32 1056964608#32 = Ideal.div x (Ideal.ofBits .f32 1073741824#32) := by
  unfold Ideal.div
  rw [two_bits, half_bits, if_neg (by norm_num), ← EReal.coe_inv]

/-- One half lies between nothing and one. -/
theorem half_pos : 0 < Ideal.ofBits .f32 1056964608#32 := by
  rw [half_bits]; exact EReal.coe_pos.mpr (by norm_num)
theorem half_lt_one : Ideal.ofBits .f32 1056964608#32 < 1 := by
  rw [half_bits, ← EReal.coe_one]; exact EReal.coe_lt_coe_iff.mpr (by norm_num)

/-- A corner with the halves written as products. -/
theorem corner_eq (hi : Bool) (x w g a s : EReal) : corner hi x w g a s =
    let xy := (sg x * Ideal.ofBits .f32 1073741824#32 - Ideal.ofBits .f32 1056964608#32 + g) * s
    let half := sg w * Ideal.ofBits .f32 1073741824#32 * (sg w * Ideal.ofBits .f32 1073741824#32) * a * Ideal.ofBits .f32 1056964608#32
    if hi then xy + half else xy - half := by
  unfold corner
  rw [mul_half]

end Cert.Nms
end
-- ==== Proof.K.Head.lean ====
/-
  What the first call leaves, per anchor: its best score and its box.
-/
module

public import proofs.«01_k».proof.Proof.K.Blocks
public import proofs.«01_k».proof.Proof.Math.Score
public import Idealize.ShloMosaic.Lib.Pointwise

@[expose] public section

set_option maxRecDepth 16384

noncomputable section

namespace Cert.KernelIdeal.Hand

open Cert.KernelIdeal Cert.KernelIdeal.Gen Cert.Nms
open Idealize.ShloMosaic Idealize.ShloMosaic.TcCoe Idealize.ShloMosaic.Tactic

/-- The sigmoid of a block. -/
theorem pay2_at (Y : S1x2000x85.Idx → Elt Ideal .f32) (i : Fin 2000) (k : Fin 85) :
    k0_pay2 (F := Ideal) Y (ix2 i k) = sg (Y (ix3 (0 : Fin 1) i k)) := by
  pointwise [k0_pay2]
  rfl

/-- The best class score times the objectness. -/
theorem pay3_at (Y : S1x2000x85.Idx → Elt Ideal .f32) (i : Fin 2000) (X : Fin 85 → EReal) (hX : ∀ k, Y (ix3 (0 : Fin 1) i k) = X k) :
    k0_pay3 (F := Ideal) Y (ix3 (0 : Fin 1) (0 : Fin 1) i)
      = Finset.fold max (Ideal.ofBits .f32 4286578688#32) (fun c : Fin 80 => sg (X ⟨5 + c.val, by omega⟩)) Finset.univ * sg (X 4) := by
  have h : k0_pay3 (F := Ideal) Y (ix3 (0 : Fin 1) (0 : Fin 1) i)
      = Finset.fold max (Ideal.ofBits .f32 4286578688#32) (fun c : Fin 80 => k0_pay2 (F := Ideal) Y (ix2 i (⟨5 + c.val, by omega⟩ : Fin 85))) Finset.univ
        * k0_pay2 (F := Ideal) Y (ix2 i (4 : Fin 85)) := by
    pointwise [k0_pay3]
  rw [h, pay2_at, hX]
  simp only [pay2_at, hX]

/-- The decoded corners. -/
theorem pay4_at (Y : S1x2000x85.Idx → Elt Ideal .f32) (a b c : S2000x2.Idx → Elt Ideal .f32) (i : Fin 2000) (k : Fin 4) (X : Fin 85 → EReal) (A B C : Fin 2 → EReal)
    (hX : ∀ k, Y (ix3 (0 : Fin 1) i k) = X k) (hA : ∀ k, a (ix2 i k) = A k) (hB : ∀ k, b (ix2 i k) = B k) (hC : ∀ k, c (ix2 i k) = C k) :
    k0_pay1 (F := Ideal) (k0_pay4 Y a b c) (ix4 (0 : Fin 1) (0 : Fin 1) i k) = match k with
      | 0 => corner false (X 0) (X 2) (A 0) (C 0) (B 0)
      | 1 => corner false (X 1) (X 3) (A 1) (C 1) (B 1)
      | 2 => corner true (X 0) (X 2) (A 0) (C 0) (B 0)
      | 3 => corner true (X 1) (X 3) (A 1) (C 1) (B 1) := by
  simp only [← hX, ← hA, ← hB, ← hC]
  match k with
  | 0 => simp only [corner_eq]; rw [← pay2_at, ← pay2_at, if_neg (by decide)]; pointwise [k0_pay1, k0_pay4]
  | 1 => simp only [corner_eq]; rw [← pay2_at, ← pay2_at, if_neg (by decide)]; pointwise [k0_pay1, k0_pay4]
  | 2 => simp only [corner_eq]; rw [← pay2_at, ← pay2_at]; pointwise [k0_pay1, k0_pay4]
  | 3 => simp only [corner_eq]; rw [← pay2_at, ← pay2_at]; pointwise [k0_pay1, k0_pay4]

variable (V : Dev nD → Valuation τ sig (Elt Ideal))

/-- The first result at an anchor. -/
theorem G4_at (c : Dev nD) (b : Fin 16) (r : Fin 10) (i : Fin 2000) :
    G4 V c (ix3 b r i) = most (fun a ch => V c (Proc.devRef .tc main_arg0) (ix3 b a ch)) (place r i) := by
  exact pay3_at _ i _ fun k => iblk0_0 V c b r i k

/-- The second result at an anchor. -/
theorem G5_at (c : Dev nD) (b : Fin 16) (r : Fin 10) (i : Fin 2000) (k : Fin 4) :
    G5 V c (ix4 b r i k) = box (fun a ch => V c (Proc.devRef .tc main_arg0) (ix3 b a ch)) (fun a k => V c (Proc.devRef .tc main_arg1) (ix2 a k))
      (fun a k => V c (Proc.devRef .tc main_arg2) (ix2 a k)) (fun a k => V c (Proc.devRef .tc main_arg3) (ix2 a k)) (place r i) k := by
  refine (pay4_at _ _ _ _ i k _ _ _ _ (fun k => iblk0_0 V c b r i k) (fun k => iblk0_1 V c b r i k) (fun k => iblk0_3 V c b r i k)
    (fun k => iblk0_2 V c b r i k)).trans ?_
  match k with
  | 0 => rfl
  | 1 => rfl
  | 2 => rfl
  | 3 => rfl

end Cert.KernelIdeal.Hand

end
-- ==== Proof.Math.Bits.lean ====
/-
  Single bits read as propositions.
-/
module

public import proofs.«01_k».proof.Proof.Math.Take

@[expose] public section

namespace Cert.Nms
open Idealize.ShloMosaic

/-- A bit's conjunction. -/
theorem bit_and (x y : BitVec 1) : IntOp.andi x y = 1#1 ↔ x = 1#1 ∧ y = 1#1 := by revert x y; decide
/-- A bit's complement. -/
theorem bit_not (x : BitVec 1) : ~~~ x = 1#1 ↔ ¬ x = 1#1 := by revert x; decide
/-- A choice between bits. -/
theorem bit_select (x y z : BitVec 1) : Scalar.select x y z = 1#1 ↔ (x = 1#1 → y = 1#1) ∧ (¬ x = 1#1 → z = 1#1) := by revert x y z; decide
/-- A comparison of small words. -/
theorem bit_gt {p q : ℕ} (hp : p < 2 ^ 31) (hq : q < 2 ^ 31) : IntOp.cmpi .sgt (BitVec.ofNat 32 p) (BitVec.ofNat 32 q) = 1#1 ↔ q < p := by
  unfold IntOp.cmpi
  simp only [BitVec.slt, word_toInt hp, word_toInt hq]
  by_cases h : q < p
  · simp [h]
  · simp [h]
/-- The other comparison of small words. -/
theorem bit_lt {p q : ℕ} (hp : p < 2 ^ 31) (hq : q < 2 ^ 31) : IntOp.cmpi .slt (BitVec.ofNat 32 p) (BitVec.ofNat 32 q) = 1#1 ↔ p < q := by
  unfold IntOp.cmpi
  simp only [BitVec.slt, word_toInt hp, word_toInt hq]
  by_cases h : p < q
  · simp [h]
  · simp [h]
/-- A truth value as a bit. -/
theorem bit_decide (P : Prop) [Decidable P] : BitVec.ofBool (decide P) = 1#1 ↔ P := by
  by_cases h : P
  · rw [decide_eq_true h]; exact ⟨fun _ => h, fun _ => rfl⟩
  · rw [decide_eq_false h]; exact ⟨fun e => absurd e (by decide), fun e => absurd e h⟩

end Cert.Nms
end
-- ==== Proof.K.Kept.lean ====
/-
  What the second call stores for an image: one for the boxes that are kept, zero for the others.
-/
module

public import proofs.«01_k».proof.Proof.K.Nms
public import proofs.«01_k».proof.Proof.Math.Score
public import proofs.«01_k».proof.Proof.Math.Bits

@[expose] public section

set_option maxRecDepth 16384

noncomputable section

namespace Cert.KernelIdeal.Hand

open Cert.KernelIdeal Cert.KernelIdeal.Gen Cert.Nms
open Idealize.ShloMosaic Idealize.ShloMosaic.TcCoe Idealize.ShloMosaic.Tactic

variable (Y0 : S1x1024x4.Idx → Elt Ideal .f32) (Y1 : S1x4x1024.Idx → Elt Ideal .f32) (Y2 : S1x1x1024.Idx → Elt Ideal .f32)
variable (P : Fin 1024 → Fin 4 → EReal)

/-- The overlap test. -/
theorem pay6_at (h0 : ∀ r k, Y0 (ix3 (0 : Fin 1) r k) = P r k) (h1 : ∀ r k, Y1 (ix3 (0 : Fin 1) k r) = P r k) (i j : Fin 1024) :
    k1_pay6 (F := Ideal) Y0 Y1 (ix2 i j) = BitVec.ofBool (decide (Ideal.ofBits .f32 1056964608#32 < iou (P i) (P j))) := by
  unfold iou
  simp only [← h0 i, ← h1 j]
  pointwise [k1_pay6]

/-- The order test. -/
theorem pay7_at (i j : Fin 1024) : k1_pay7 (ix2 i j) = IntOp.cmpi .slt (BitVec.ofNat 32 i.val) (BitVec.ofNat 32 j.val) := by
  pointwise [k1_pay7]

open Classical in
/-- An entry of the suppression matrix. -/
theorem supM_at (h0 : ∀ r k, Y0 (ix3 (0 : Fin 1) r k) = P r k) (h1 : ∀ r k, Y1 (ix3 (0 : Fin 1) k r) = P r k) (i j : Fin 1024) :
    supM Y0 Y1 (ix2 i j) = if i < j ∧ Ideal.ofBits .f32 1056964608#32 < iou (P i) (P j) then 1 else 0 := by
  have e : supM Y0 Y1 (ix2 i j) = Scalar.select (IntOp.andi (k1_pay6 (F := Ideal) Y0 Y1 (ix2 i j)) (k1_pay7 (ix2 i j))) 1 0 := by
    unfold supM
    pointwise [k1_pay1]
  have h : IntOp.andi (k1_pay6 (F := Ideal) Y0 Y1 (ix2 i j)) (k1_pay7 (ix2 i j)) = 1#1 ↔ i < j ∧ Ideal.ofBits .f32 1056964608#32 < iou (P i) (P j) := by
    rw [bit_and, pay6_at Y0 Y1 P h0 h1, bit_decide, pay7_at, bit_lt (by omega) (by omega)]
    exact and_comm
  rw [e]
  unfold Scalar.select
  by_cases hk : i < j ∧ Ideal.ofBits .f32 1056964608#32 < iou (P i) (P j)
  · rw [if_pos hk]; exact if_pos (h.mpr hk)
  · rw [if_neg hk]; exact if_neg fun e => hk (h.mp e)

/-- What is stored, as a row. -/
theorem nmsOut_row (j : Fin 1024) : nmsOut Y0 Y1 Y2 (ix3 (0 : Fin 1) (0 : Fin 1) j) = rowOf (steps (k1_pay2 (F := Ideal) Y2) (supM Y0 Y1) 1024) j := by
  unfold nmsOut
  generalize steps (k1_pay2 (F := Ideal) Y2) (supM Y0 Y1) 1024 = K
  pointwise [k1_pay3]

theorem pay2_row (j : Fin 1024) : rowOf (k1_pay2 (F := Ideal) Y2) j = Y2 (ix3 (0 : Fin 1) (0 : Fin 1) j) := by
  pointwise [k1_pay2]

open Classical in
/-- The stored row marks the kept boxes. -/
theorem nmsOut_keep (valid : Fin 1024 → Prop) (h0 : ∀ r k, Y0 (ix3 (0 : Fin 1) r k) = P r k) (h1 : ∀ r k, Y1 (ix3 (0 : Fin 1) k r) = P r k)
    (h2 : ∀ r, Y2 (ix3 (0 : Fin 1) (0 : Fin 1) r) = if valid r then (1 : EReal) else 0) (j : Fin 1024) :
    nmsOut Y0 Y1 Y2 (ix3 (0 : Fin 1) (0 : Fin 1) j)
      = if keep valid (fun i j => Ideal.ofBits .f32 1056964608#32 < iou (P i) (P j)) j then (1 : EReal) else 0 := by
  rw [nmsOut_row, steps_row]
  have hS := supM_upper Y0 Y1
  exact congrFun (iter_fixed (h := half) (v := rowOf (k1_pay2 (F := Ideal) Y2)) (S := matOf (supM Y0 Y1)) hS (rowOf (k1_pay2 (F := Ideal) Y2))
    (keep_fixed half_pos half_lt_one valid _ (fun j => by rw [pay2_row]; exact h2 j) (fun i j => (supM_at Y0 Y1 P h0 h1 i j).trans (by congr))) 1024 le_rfl) j

/-- A box is marked exactly when it is kept. -/
theorem marked (valid : Fin 1024 → Prop) (h0 : ∀ r k, Y0 (ix3 (0 : Fin 1) r k) = P r k) (h1 : ∀ r k, Y1 (ix3 (0 : Fin 1) k r) = P r k)
    (h2 : ∀ r, (valid r → Y2 (ix3 (0 : Fin 1) (0 : Fin 1) r) = (1 : EReal)) ∧ (¬ valid r → Y2 (ix3 (0 : Fin 1) (0 : Fin 1) r) = (0 : EReal))) (j : Fin 1024) :
    Ideal.ofBits .f32 1056964608#32 < nmsOut Y0 Y1 Y2 (ix3 (0 : Fin 1) (0 : Fin 1) j)
      ↔ keep valid (fun i j => Ideal.ofBits .f32 1056964608#32 < iou (P i) (P j)) j := by
  classical
  rw [nmsOut_keep Y0 Y1 Y2 P valid h0 h1 (fun r => by
    by_cases h : valid r
    · rw [if_pos h]; exact (h2 r).1 h
    · rw [if_neg h]; exact (h2 r).2 h) j]
  by_cases h : keep valid (fun i j => Ideal.ofBits .f32 1056964608#32 < iou (P i) (P j)) j
  · rw [if_pos h]; exact ⟨fun _ => h, fun _ => half_lt_one⟩
  · rw [if_neg h]; exact ⟨fun e => absurd e (not_lt.mpr half_pos.le), fun e => absurd e h⟩

end Cert.KernelIdeal.Hand

end
-- ==== Proof.Math.Picked.lean ====
/-
  Picking the best pairs among the best anchors picks the best pairs of all.
-/
module

public import proofs.«01_k».proof.Proof.Math.Score

@[expose] public section

noncomputable section

namespace Cert.Nms

open Idealize.ShloMosaic

variable (X : Head)

/-- The best anchors. -/
def front (r : Fin 1000) : Fin 20000 := top (most X) (r.castLE (by decide))
theorem front_inj : Function.Injective (front X) := fun r r' h => by
  exact Fin.castLE_injective _ (sortedFrom_injective _ h)
/-- The best anchors in increasing order. -/
def kept (p : Fin 1000) : Fin 20000 := front X (ascend (front X) p)
/-- The score of a pair of kept anchor and class. -/
def pairScore (q : Fin 80000) : EReal := score X (kept X ⟨q.val / 80, by omega⟩) ⟨q.val % 80, by omega⟩
/-- The best of these pairs. -/
def pairPick (r : Fin 1000) : Fin 80000 := top (pairScore X) (r.castLE (by decide))

/-- The flat position of a pair, from its kept anchor. -/
def whole (q : Fin 80000) : Fin 1600000 := ⟨(kept X ⟨q.val / 80, by omega⟩).val * 80 + q.val % 80, by omega⟩

theorem flatScore_whole (q : Fin 80000) : flatScore X (whole X q) = pairScore X q := by
  unfold flatScore pairScore whole
  have e1 : ((kept X ⟨q.val / 80, by omega⟩).val * 80 + q.val % 80) / 80 = (kept X ⟨q.val / 80, by omega⟩).val := by omega
  have e2 : ((kept X ⟨q.val / 80, by omega⟩).val * 80 + q.val % 80) % 80 = q.val % 80 := by omega
  exact congrArg₂ (score X) (Fin.ext e1) (Fin.ext e2)

theorem flatScore_flat (a : Fin 20000) (c : Fin 80) : flatScore X (flat a c : Fin (20000 * 80)) = score X a c := by
  unfold flatScore
  refine congrArg₂ (score X) (Fin.ext ?_) (Fin.ext ?_)
  · show (a.val * 80 + c.val) / 80 = a.val; omega
  · show (a.val * 80 + c.val) % 80 = c.val; omega

/-- The best pairs among the kept anchors are the best pairs of all. -/
theorem whole_pick (r : Fin 1000) : whole X (pairPick X r) = pick X r := by
  have hids : StrictMono (kept X) := ascend_strict (front X) (front_inj X)
  have hkept : ∀ p, ∃ r : Fin 1000, top (most X) (r.castLE (by omega)) = kept X p := fun p => ⟨ascend (front X) p, rfl⟩
  have hall : ∀ r : Fin 1000, ∃ p, kept X p = top (most X) (r.castLE (by omega)) := fun r => by
    obtain ⟨k, hk⟩ := ascend_surj (front X) r
    exact ⟨k, congrArg (front X) hk⟩
  have h := preselect (C := 80) (K := 1000) (A := 20000) (by decide) (flatScore X : Fin (20000 * 80) → EReal) (most X)
    (fun a c => by rw [flatScore_flat]; exact score_le X a c)
    (fun a => by obtain ⟨c, hc⟩ := score_at X a; exact ⟨c, by rw [flatScore_flat]; exact hc⟩)
    (by omega) (by omega) (by omega) (kept X) hids hkept hall r
  have e : (fun q : Fin 80000 => flatScore X (whole X q)) = pairScore X := funext fun q => flatScore_whole X q
  have h' : whole X (top (fun q : Fin 80000 => flatScore X (whole X q)) (r.castLE (by decide))) = pick X r := h
  rw [e] at h'
  exact h'

/-- Their scores, -/
theorem pair_val (r : Fin 1000) : pairScore X (pairPick X r) = val X r := by
  unfold val
  rw [← whole_pick, flatScore_whole]
/-- their anchors, -/
theorem pair_anc (r : Fin 1000) : kept X ⟨(pairPick X r).val / 80, by omega⟩ = anc X r := by
  refine Fin.ext ?_
  show _ = (pick X r).val / 80
  rw [← whole_pick]
  show _ = ((kept X ⟨(pairPick X r).val / 80, by omega⟩).val * 80 + (pairPick X r).val % 80) / 80
  omega
/-- and their classes. -/
theorem pair_lab (r : Fin 1000) : (pairPick X r).val % 80 = lab X r := by
  unfold lab
  rw [← whole_pick]
  show _ = ((kept X ⟨(pairPick X r).val / 80, by omega⟩).val * 80 + (pairPick X r).val % 80) % 80
  omega

/-- What is kept among the first boxes does not depend on the boxes after them. -/
theorem keep_cut {n N : ℕ} (h : n ≤ N) (valid : Fin N → Prop) (sup : Fin N → Fin N → Prop) (valid' : Fin n → Prop) (sup' : Fin n → Fin n → Prop)
    (hv : ∀ j, valid (j.castLE h) ↔ valid' j) (hs : ∀ i j, sup (i.castLE h) (j.castLE h) ↔ sup' i j) :
    ∀ (k : ℕ) (j : Fin n), j.val = k → (keep valid sup (j.castLE h) ↔ keep valid' sup' j) := by
  intro k
  induction k using Nat.strong_induction_on with
  | _ k ih =>
    intro j hj
    rw [keep, keep, hv]
    refine and_congr_right fun _ => ?_
    constructor
    · intro a i hi hk
      have := a (i.castLE h) hi ((ih i.val (by have : i.val < j.val := hi; omega) i rfl).mpr hk)
      rwa [hs] at this
    · intro a i hi hk
      have hi' : i.val < j.val := hi
      obtain ⟨i', rfl⟩ : ∃ i' : Fin n, i = i'.castLE h := ⟨⟨i.val, by have := j.isLt; omega⟩, rfl⟩
      rw [hs]
      exact a i' hi ((ih i'.val (by have : i'.val < j.val := hi; omega) i' rfl).mp hk)

end Cert.Nms
end
-- ==== Proof.K.Result.lean ====
/-
  The kernel program's three results: the kept boxes of each image, best first, their scores and their classes.
-/
module

public import proofs.«01_k».proof.Proof.K.Run
public import proofs.«01_k».proof.Proof.K.Read
public import proofs.«01_k».proof.Proof.K.Head
public import proofs.«01_k».proof.Proof.K.Kept
public import proofs.«01_k».proof.Proof.Math.Picked
public import proofs.«01_k».proof.Proof.Math.Bits

@[expose] public section

noncomputable section

namespace Cert.KernelIdeal.Hand

open Cert.KernelIdeal Cert.KernelIdeal.Gen Cert.Nms
open Idealize.ShloMosaic Idealize.ShloMosaic.TcCoe Idealize.ShloMosaic.Tactic

variable (m : (ℓ : Loc nD τ sig) → Buf (Elt Ideal) ℓ) (c : Dev nD)

/-- An image's head outputs at launch. -/
abbrev hd (b : Fin 16) : Head := fun a ch => V0 m c (Proc.devRef .tc main_arg0) (ix3 b a ch)
/-- The grid's table at launch. -/
abbrev gridT : Duo := fun a k => V0 m c (Proc.devRef .tc main_arg1) (ix2 a k)
/-- The anchors' table at launch. -/
abbrev anchorT : Duo := fun a k => V0 m c (Proc.devRef .tc main_arg2) (ix2 a k)
/-- The strides' table at launch. -/
abbrev strideT : Duo := fun a k => V0 m c (Proc.devRef .tc main_arg3) (ix2 a k)
/-- An image's selected boxes. -/
abbrev bx (b : Fin 16) : Fin 1000 → Fin 4 → EReal := cand (hd m c b) (gridT m c) (anchorT m c) (strideT m c)
/-- The boxes that an image keeps, best first. -/
abbrev bst (b : Fin 16) (s : Fin 300) : Fin 1000 := best (bx m c b) (val (hd m c b)) (lab (hd m c b)) s

theorem place_self (a : Fin 20000) : place (⟨a.val / 2000, by omega⟩ : Fin 10) (⟨a.val % 2000, by omega⟩ : Fin 2000) = a :=
  Fin.ext (by show 2000 * (a.val / 2000) + a.val % 2000 = a.val; omega)

/-- The arrays that the first call leaves. -/
theorem u1_max : V1 m (outs m) c (Proc.devRef .tc main_v0_0) = G4 (V0 m) c := by
  show Function.update (Function.update (V0 m c) main_v0_0 (outs m 1 main_v0_0 c)) main_v0_1 (outs m 1 main_v0_1 c) (Proc.devRef .tc main_v0_0) = _
  rw [Function.update_of_ne (by decide), Function.update_self, outs_1_0]
theorem u1_box : V1 m (outs m) c (Proc.devRef .tc main_v0_1) = G5 (V0 m) c := by
  show Function.update (Function.update (V0 m c) main_v0_0 (outs m 1 main_v0_0 c)) main_v0_1 (outs m 1 main_v0_1 c) (Proc.devRef .tc main_v0_1) = _
  rw [Function.update_self, outs_1_1]

theorem u1_best (b : Fin 16) : bestAt (V1 m (outs m) c) b = most (hd m c b) := by
  funext a
  unfold bestAt
  rw [u1_max, G4_at, place_self]
theorem u2_indices (b r) : V2 m (outs m) c (Proc.devRef .tc main_indices) (ix2 b r) = BitVec.ofNat 32 (front (hd m c b) r).val := by
  refine (indices_at _ b r).trans ?_
  rw [u1_best]
  rfl
theorem u2_box (b a k) : V2 m (outs m) c (Proc.devRef .tc main_v2) (ix3 b a k) = box (hd m c b) (gridT m c) (anchorT m c) (strideT m c) a k := by
  refine (v2_at _ b a k).trans ?_
  rw [u1_box, G5_at, place_self]
theorem u3_kept (b r) : V3 m (outs m) c (Proc.devRef .tc main_v3) (ix2 b r) = BitVec.ofNat 32 (kept (hd m c b) r).val :=
  v3_at _ b (front (hd m c b)) (front_inj _) (u2_indices m c b) r
theorem u4_kept (b r) : V4 m (outs m) c (Proc.devRef .tc main_v4) (ix3 b r (0 : Fin 1)) = BitVec.ofNat 32 (kept (hd m c b) r).val :=
  (v4_at _ b r).trans (u3_kept m c b r)
theorem u5_head (b r k) : V5 m (outs m) c (Proc.devRef .tc main_v5) (ix3 b r k) = hd m c b (kept (hd m c b) r) k := by
  refine (v5_at _ b r k _ (u4_kept m c b r)).trans ?_
  rw [V4_of _ _ _ _ (by decide), V3_of _ _ _ _ (by decide), V2_of _ _ _ _ (by decide), V1_of _ _ _ _ (by decide)]
theorem u6_kept (b r) : V6 m (outs m) c (Proc.devRef .tc main_v6) (ix3 b r (0 : Fin 1)) = BitVec.ofNat 32 (kept (hd m c b) r).val := by
  refine (v6_at _ b r).trans ?_
  rw [V5_of _ _ _ _ (by decide), V4_of _ _ _ _ (by decide), u3_kept]
theorem u7_box (b r k) : V7 m (outs m) c (Proc.devRef .tc main_v7) (ix3 b r k)
    = box (hd m c b) (gridT m c) (anchorT m c) (strideT m c) (kept (hd m c b) r) k := by
  refine (v7_at _ b r k _ (u6_kept m c b r)).trans ?_
  rw [V6_of _ _ _ _ (by decide), V5_of _ _ _ _ (by decide), V4_of _ _ _ _ (by decide), V3_of _ _ _ _ (by decide), u2_box]
theorem u7_pair (b) : pairAt (V7 m (outs m) c) b = pairScore (hd m c b) := by
  have e : ∀ r k, keptAt (V7 m (outs m) c) b r k = hd m c b (kept (hd m c b) r) k := fun r k => by
    unfold keptAt
    rw [V7_of _ _ _ _ (by decide), V6_of _ _ _ _ (by decide), u5_head]
  funext q
  unfold pairAt
  rw [e, e]
  rfl
theorem u8_values (b r) : V8 m (outs m) c (Proc.devRef .tc main_values_1) (ix2 b r) = val (hd m c b) r := by
  refine (values1_at _ b r).trans ?_
  rw [u7_pair]
  exact pair_val _ r
theorem u8_indices (b r) : V8 m (outs m) c (Proc.devRef .tc main_indices_2) (ix2 b r) = BitVec.ofNat 32 (pairPick (hd m c b) r).val := by
  refine (indices2_at _ b r).trans ?_
  rw [u7_pair]
  rfl
theorem u9_lab (b r) : V9 m (outs m) c (Proc.devRef .tc main_v19) (ix2 b r) = BitVec.ofNat 32 (lab (hd m c b) r) := by
  have hp := (pairPick (hd m c b) r).isLt
  refine (rem_at _ b r _ (by omega) (u8_indices m c b r) (c80_at _)).trans ?_
  rw [pair_lab]
theorem u11_quot (b r) : V11 m (outs m) c (Proc.devRef .tc main_v20) (ix2 b r) = BitVec.ofNat 32 ((pairPick (hd m c b) r).val / 80) := by
  have hp := (pairPick (hd m c b) r).isLt
  refine quot_at _ b r _ (by omega) ?_ (c80b_at _)
  rw [V10_of _ _ _ _ (by decide), V9_of _ _ _ _ (by decide), u8_indices]
theorem u13_box (b r k) : V13 m (outs m) c (Proc.devRef .tc main_v22) (ix3 b r k) = bx m c b r k := by
  have hp := (pairPick (hd m c b) r).isLt
  refine (v22_at _ b r k (⟨(pairPick (hd m c b) r).val / 80, by omega⟩ : Fin 1000) ((v21_at _ b r).trans (u11_quot m c b r))).trans ?_
  rw [show StableHlo.after hostOps1_10 (V11 m (outs m) c) (Proc.devRef .tc main_v7) = V11 m (outs m) c (Proc.devRef .tc main_v7) from V12_of _ _ _ _ (by decide),
    V11_of _ _ _ _ (by decide), V10_of _ _ _ _ (by decide), V9_of _ _ _ _ (by decide), V8_of _ _ _ _ (by decide), u7_box, pair_anc]
  rfl
theorem u13_values (b r) : V13 m (outs m) c (Proc.devRef .tc main_values_1) (ix2 b r) = val (hd m c b) r := by
  rw [V13_of _ _ _ _ (by decide), V12_of _ _ _ _ (by decide), V11_of _ _ _ _ (by decide), V10_of _ _ _ _ (by decide), V9_of _ _ _ _ (by decide), u8_values]
theorem u13_lab (b r) : V13 m (outs m) c (Proc.devRef .tc main_v19) (ix2 b r) = BitVec.ofNat 32 (lab (hd m c b) r) := by
  rw [V13_of _ _ _ _ (by decide), V12_of _ _ _ _ (by decide), V11_of _ _ _ _ (by decide), V10_of _ _ _ _ (by decide), u9_lab]
theorem u14_valid (b r) : V14 m (outs m) c (Proc.devRef .tc main_v24) (ix2 b r) = 1#1 ↔ valid (val (hd m c b)) r := by
  rw [show V14 m (outs m) c (Proc.devRef .tc main_v24) (ix2 b r) = _ from v24_at _ b r, u13_values]
  exact bit_decide _
theorem u14_moved (b r k) : V14 m (outs m) c (Proc.devRef .tc main_v30) (ix3 b r k) = shift (bx m c b) (lab (hd m c b)) r k := by
  refine (v30_at _ b r k).trans ?_
  unfold v22 shift
  rw [u13_box, u13_lab]

/-- The rows given to the suppression: the moved boxes first. -/
theorem u15_moved (b) (r : Fin 1000) (k) : V15 m (outs m) c (Proc.devRef .tc main_v31) (ix3 b (r.castLE (by decide) : Fin 1024) k)
    = shift (bx m c b) (lab (hd m c b)) r k :=
  (v31_at _ b _ k r.isLt).trans (u14_moved m c b r k)
theorem u18_31 : V18 m (outs m) c (Proc.devRef .tc main_v31) = V15 m (outs m) c (Proc.devRef .tc main_v31) := by
  rw [V18_of _ _ _ _ (by decide), V17_of _ _ _ _ (by decide), V16_of _ _ _ _ (by decide)]
theorem u18_32 (b r k) : V18 m (outs m) c (Proc.devRef .tc main_v32) (ix3 b k r) = V15 m (outs m) c (Proc.devRef .tc main_v31) (ix3 b r k) := by
  rw [V18_of _ _ _ _ (by decide), V17_of _ _ _ _ (by decide)]
  exact v32_at _ b r k

/-- The threshold over the longer row. -/
abbrev longValid (b : Fin 16) (r : Fin 1024) : Prop := ∃ h : r.val < 1000, valid (val (hd m c b)) ⟨r.val, h⟩
theorem u17_valid (b) (r : Fin 1024) : V17 m (outs m) c (Proc.devRef .tc main_v33) (ix2 b r) = 1#1 ↔ longValid m c b r := by
  rw [show V17 m (outs m) c (Proc.devRef .tc main_v33) (ix2 b r) = _ from v33_at _ b r (c0_at _)]
  by_cases h : r.val < 1000
  · rw [dif_pos h, V16_of _ _ _ _ (by decide), V15_of _ _ _ _ (by decide), u14_valid]
    exact ⟨fun a => ⟨h, a⟩, fun ⟨_, a⟩ => a⟩
  · rw [dif_neg h]
    exact ⟨fun a => absurd (show (0#1 : BitVec 1) = 1#1 from a) (by simp), fun ⟨a, _⟩ => absurd a h⟩
theorem bit_number (x : BitVec 1) : (x = 1#1 → FloatOps.uitofp (F := Ideal) .f32 x = (1 : EReal)) ∧ (¬ x = 1#1 → FloatOps.uitofp (F := Ideal) .f32 x = (0 : EReal)) := by
  constructor
  · intro h
    rw [h]
    show (((1#1).toNat : ℝ) : EReal) = 1
    norm_num
  · intro h
    rw [show x = 0#1 by revert x; decide]
    show (((0#1).toNat : ℝ) : EReal) = 0
    norm_num
theorem u18_35 (b) (r : Fin 1024) : (longValid m c b r → V18 m (outs m) c (Proc.devRef .tc main_v35) (ix3 b (0 : Fin 1) r) = (1 : EReal))
    ∧ (¬ longValid m c b r → V18 m (outs m) c (Proc.devRef .tc main_v35) (ix3 b (0 : Fin 1) r) = (0 : EReal)) := by
  have h := bit_number (V17 m (outs m) c (Proc.devRef .tc main_v33) (ix2 b r))
  rw [u17_valid] at h
  exact ⟨fun a => (v35_at _ b r).trans (h.1 a), fun a => (v35_at _ b r).trans (h.2 a)⟩

/-- The row that the second call leaves marks the kept boxes. -/
theorem u19_keep (b) (r : Fin 1000) : Ideal.ofBits .f32 1056964608#32 < v36 (V19 m (outs m) c) b (r.castLE (by decide))
    ↔ keep (valid (val (hd m c b))) (over (bx m c b) (lab (hd m c b))) r := by
  have e : V19 m (outs m) c (Proc.devRef .tc main_v36) = G3 (V18 m (outs m)) c := by
    show Function.update (V18 m (outs m) c) main_v36 (outs m 19 main_v36 c) (Proc.devRef .tc main_v36) = _
    rw [Function.update_self, outs_19]
  unfold v36
  rw [e]
  refine (marked (iblk1 (V18 m (outs m)) c 0 (pt1 b)) (iblk1 (V18 m (outs m)) c 1 (pt1 b)) (iblk1 (V18 m (outs m)) c 2 (pt1 b))
    (fun r k => V15 m (outs m) c (Proc.devRef .tc main_v31) (ix3 b r k)) (longValid m c b)
    (fun r k => (iblk1_0 _ c b r k).trans (congrFun (u18_31 m c) _)) (fun r k => (iblk1_1 _ c b r k).trans (u18_32 m c b r k))
    (fun r => ⟨fun a => (iblk1_2 _ c b r).trans ((u18_35 m c b r).1 a), fun a => (iblk1_2 _ c b r).trans ((u18_35 m c b r).2 a)⟩)
    (r.castLE (by decide))).trans ?_
  refine keep_cut (by decide) _ _ _ _ (fun j => ⟨fun ⟨_, a⟩ => a, fun a => ⟨j.isLt, a⟩⟩) (fun i j => ?_) r.val r rfl
  unfold over
  rw [show (fun k => V15 m (outs m) c (Proc.devRef .tc main_v31) (ix3 b (i.castLE (by decide) : Fin 1024) k)) = shift (bx m c b) (lab (hd m c b)) i from
      funext fun k => u15_moved m c b i k,
    show (fun k => V15 m (outs m) c (Proc.devRef .tc main_v31) (ix3 b (j.castLE (by decide) : Fin 1024) k)) = shift (bx m c b) (lab (hd m c b)) j from
      funext fun k => u15_moved m c b j k]

theorem u19_valid (b r) : V19 m (outs m) c (Proc.devRef .tc main_v24) (ix2 b r) = 1#1 ↔ valid (val (hd m c b)) r := by
  rw [V19_of _ _ _ _ (by decide), V18_of _ _ _ _ (by decide), V17_of _ _ _ _ (by decide), V16_of _ _ _ _ (by decide), V15_of _ _ _ _ (by decide), u14_valid]
theorem u20_sel (b r) : V20 m (outs m) c (Proc.devRef .tc main_v41) (ix2 b r) = 1#1
    ↔ keep (valid (val (hd m c b))) (over (bx m c b) (lab (hd m c b))) r ∧ valid (val (hd m c b)) r := by
  rw [show V20 m (outs m) c (Proc.devRef .tc main_v41) (ix2 b r) = _ from v41_at _ b r, bit_and, bit_decide, u19_keep, u19_valid]
/-- An array that nothing after the class offsets writes, before the last stretches. -/
theorem u20_of_13 (r : Ref sig .tc) (h14 : r ∉ hostOps1_12_W) (h15 : r ∉ hostOps1_13_W) (h16 : r ∉ hostOps1_14_W) (h17 : r ∉ hostOps1_15_W)
    (h18 : r ∉ hostOps1_16_W) (h19 : r ∉ ([main_v36] : List (Ref sig .tc))) (h20 : r ∉ hostOps2_W) :
    V20 m (outs m) c (Proc.devRef .tc r) = V13 m (outs m) c (Proc.devRef .tc r) := by
  rw [V20_of _ _ _ _ h20, V19_of _ _ _ _ h19, V18_of _ _ _ _ h18, V17_of _ _ _ _ h17, V16_of _ _ _ _ h16, V15_of _ _ _ _ h15, V14_of _ _ _ _ h14]

/-- The scores after the suppression. -/
theorem u21_sel (b r) : V21 m (outs m) c (Proc.devRef .tc main_v42) (ix2 b r) = sel (bx m c b) (val (hd m c b)) (lab (hd m c b)) r := by
  refine (v42_at _ b r).trans ?_
  rw [u20_of_13 m c main_values_1 (by decide) (by decide) (by decide) (by decide) (by decide) (by decide) (by decide), u13_values,
    show V20 m (outs m) c (Proc.devRef .tc main_cst_9) ix0 = _ from cst9_at _]
  have h := u20_sel m c b r
  unfold sel Scalar.select
  by_cases hk : keep (valid (val (hd m c b))) (over (bx m c b) (lab (hd m c b))) r ∧ valid (val (hd m c b)) r
  · rw [if_pos hk]; exact if_pos (h.mpr hk)
  · rw [if_neg hk]; exact if_neg fun e => hk (h.mp e)
theorem u21_row (b) : (fun q => V21 m (outs m) c (Proc.devRef .tc main_v42) (ix2 b q)) = sel (bx m c b) (val (hd m c b)) (lab (hd m c b)) :=
  funext fun q => u21_sel m c b q
theorem u22_best (b s) : V22 m (outs m) c (Proc.devRef .tc main_indices_11) (ix2 b s) = BitVec.ofNat 32 (bst m c b s).val := by
  refine (indices11_at _ b s).trans ?_
  rw [u21_row]
  rfl
theorem u22_best' (b s) : V22 m (outs m) c (Proc.devRef .tc main_v43) (ix3 b s (0 : Fin 1)) = BitVec.ofNat 32 (bst m c b s).val := by
  refine (v43_at _ b s).trans ?_
  rw [u21_row]
  rfl

/-- The first result: the boxes. -/
theorem result0 (b s k) : V25 m (outs m) c (Proc.devRef .tc main_v44) (ix3 b s k) = bx m c b (bst m c b s) k := by
  rw [V25_of _ _ _ _ (by decide), V24_of _ _ _ _ (by decide)]
  refine (v44_at _ b s k _ (u22_best' m c b s)).trans ?_
  rw [V22_of _ _ _ _ (by decide), V21_of _ _ _ _ (by decide),
    u20_of_13 _ _ _ (by decide) (by decide) (by decide) (by decide) (by decide) (by decide) (by decide), u13_box]
/-- The second result: the scores. -/
theorem result1 (b s) : V25 m (outs m) c (Proc.devRef .tc main_v45) (ix2 b s) = sel (bx m c b) (val (hd m c b)) (lab (hd m c b)) (bst m c b s) := by
  rw [V25_of _ _ _ _ (by decide)]
  refine (v45_at _ b s (bst m c b s) ?_).trans ?_
  · rw [V23_of _ _ _ _ (by decide), u22_best]
  · rw [V23_of _ _ _ _ (by decide), V22_of _ _ _ _ (by decide), u21_sel]
/-- The third result: the classes. -/
theorem result2 (b s) : V25 m (outs m) c (Proc.devRef .tc main_v46) (ix2 b s) = BitVec.ofNat 32 (lab (hd m c b) (bst m c b s)) := by
  refine (v46_at _ b s (bst m c b s) ?_).trans ?_
  · rw [V24_of _ _ _ _ (by decide), V23_of _ _ _ _ (by decide), u22_best]
  · rw [V24_of _ _ _ _ (by decide), V23_of _ _ _ _ (by decide), V22_of _ _ _ _ (by decide), V21_of _ _ _ _ (by decide),
      u20_of_13 _ _ _ (by decide) (by decide) (by decide) (by decide) (by decide) (by decide) (by decide), u13_lab]

end Cert.KernelIdeal.Hand

end
-- ==== Proof.R.Run.lean ====
/-
  The reference program run at ideal numbers: the arrays before the loop, through it and after it, and where the run ends.
-/
module

public import proofs.«01_k».proof.Proof.Gen.ReferenceIdeal.Run
public import Idealize.ShloMosaic.PureOps.Ideal
public import Idealize.ShloMosaic.Adequacy
public import Idealize.ShloMosaic.Lib.Quiescent

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.SL.Sem
open Idealize.ShloMosaic.StableHlo

variable (m : (ℓ : Loc nD τ sig) → Buf (Elt Ideal) ℓ)

/-! ## The arrays before the loop -/

abbrev X0 (c : Dev nD) : Valuation τ sig (Elt Ideal) := launchContents m c
abbrev X1 (c : Dev nD) : Valuation τ sig (Elt Ideal) := after hostOps0 (X0 m c)
abbrev X2 (c : Dev nD) : Valuation τ sig (Elt Ideal) := after hostOps0_1 (X1 m c)
abbrev X3 (c : Dev nD) : Valuation τ sig (Elt Ideal) := after hostOps0_2 (X2 m c)
abbrev X4 (c : Dev nD) : Valuation τ sig (Elt Ideal) := after hostOps0_3 (X3 m c)
abbrev X5 (c : Dev nD) : Valuation τ sig (Elt Ideal) := after hostOps0_4 (X4 m c)
abbrev X6 (c : Dev nD) : Valuation τ sig (Elt Ideal) := after hostOps0_5 (X5 m c)
abbrev X7 (c : Dev nD) : Valuation τ sig (Elt Ideal) := after hostOps0_6 (X6 m c)
abbrev X8 (c : Dev nD) : Valuation τ sig (Elt Ideal) := after hostOps0_7 (X7 m c)
abbrev X9 (c : Dev nD) : Valuation τ sig (Elt Ideal) := after hostOps0_8 (X8 m c)

theorem X1_of (c : Dev nD) (r : Ref sig .tc) (h : r ∉ hostOps0_W) : X1 m c (Proc.devRef .tc r) = X0 m c (Proc.devRef .tc r) :=
  after_of_writes_sub hostOps0 _ hostOps0_writes h
theorem X2_of (c : Dev nD) (r : Ref sig .tc) (h : r ∉ hostOps0_1_W) : X2 m c (Proc.devRef .tc r) = X1 m c (Proc.devRef .tc r) :=
  after_of_writes_sub hostOps0_1 _ hostOps0_1_writes h
theorem X3_of (c : Dev nD) (r : Ref sig .tc) (h : r ∉ hostOps0_2_W) : X3 m c (Proc.devRef .tc r) = X2 m c (Proc.devRef .tc r) :=
  after_of_writes_sub hostOps0_2 _ hostOps0_2_writes h
theorem X4_of (c : Dev nD) (r : Ref sig .tc) (h : r ∉ hostOps0_3_W) : X4 m c (Proc.devRef .tc r) = X3 m c (Proc.devRef .tc r) :=
  after_of_writes_sub hostOps0_3 _ hostOps0_3_writes h
theorem X5_of (c : Dev nD) (r : Ref sig .tc) (h : r ∉ hostOps0_4_W) : X5 m c (Proc.devRef .tc r) = X4 m c (Proc.devRef .tc r) :=
  after_of_writes_sub hostOps0_4 _ hostOps0_4_writes h
theorem X6_of (c : Dev nD) (r : Ref sig .tc) (h : r ∉ hostOps0_5_W) : X6 m c (Proc.devRef .tc r) = X5 m c (Proc.devRef .tc r) :=
  after_of_writes_sub hostOps0_5 _ hostOps0_5_writes h
theorem X7_of (c : Dev nD) (r : Ref sig .tc) (h : r ∉ hostOps0_6_W) : X7 m c (Proc.devRef .tc r) = X6 m c (Proc.devRef .tc r) :=
  after_of_writes_sub hostOps0_6 _ hostOps0_6_writes h
theorem X8_of (c : Dev nD) (r : Ref sig .tc) (h : r ∉ hostOps0_7_W) : X8 m c (Proc.devRef .tc r) = X7 m c (Proc.devRef .tc r) :=
  after_of_writes_sub hostOps0_7 _ hostOps0_7_writes h
theorem X9_of (c : Dev nD) (r : Ref sig .tc) (h : r ∉ hostOps0_8_W) : X9 m c (Proc.devRef .tc r) = X8 m c (Proc.devRef .tc r) :=
  after_of_writes_sub hostOps0_8 _ hostOps0_8_writes h

theorem entry_eq (c : Dev nD) : entryContents preI m c = X9 m c := rfl

/-! ## Through the loop -/

/-- A buffer that neither the condition nor the body writes keeps its contents through the loop. -/
theorem loop_of (c : Dev nD) (r : Ref sig .tc) (hc : r ∉ condOps_W) (h0 : r ∉ while0Ops0_W) (h1 : r ∉ while0Ops0_1_W) (h2 : r ∉ while0Ops0_2_W)
    (h3 : r ∉ while0Ops0_3_W) (h4 : r ∉ while0Ops0_4_W) (h5 : r ∉ while0Ops0_5_W) (h6 : r ∉ while0Ops0_6_W) :
    ∀ k, atK m k c (Proc.devRef .tc r) = X9 m c (Proc.devRef .tc r)
  | 0 => rfl
  | k + 1 => by
    rw [show atK m (k + 1) c = afterL bodyI (after condOps (atK m k c)) from rfl]
    simp only [afterL_cons, afterL_nil]
    rw [after_of_writes_sub while0Ops0_6 _ while0Ops0_6_writes h6, after_of_writes_sub while0Ops0_5 _ while0Ops0_5_writes h5,
      after_of_writes_sub while0Ops0_4 _ while0Ops0_4_writes h4, after_of_writes_sub while0Ops0_3 _ while0Ops0_3_writes h3,
      after_of_writes_sub while0Ops0_2 _ while0Ops0_2_writes h2, after_of_writes_sub while0Ops0_1 _ while0Ops0_1_writes h1,
      after_of_writes_sub while0Ops0 _ while0Ops0_writes h0, after_of_writes_sub condOps _ condOps_writes hc, loop_of c r hc h0 h1 h2 h3 h4 h5 h6 k]

/-! ## The arrays after the loop -/

abbrev Y0 (c : Dev nD) : Valuation τ sig (Elt Ideal) := after condOps (atK m 1000 c)
abbrev Y1 (c : Dev nD) : Valuation τ sig (Elt Ideal) := after hostOps0_9 (Y0 m c)
abbrev Y2 (c : Dev nD) : Valuation τ sig (Elt Ideal) := after hostOps0_10 (Y1 m c)
abbrev Y3 (c : Dev nD) : Valuation τ sig (Elt Ideal) := after hostOps0_11 (Y2 m c)
abbrev Y4 (c : Dev nD) : Valuation τ sig (Elt Ideal) := after hostOps0_12 (Y3 m c)
abbrev Y5 (c : Dev nD) : Valuation τ sig (Elt Ideal) := after hostOps0_13 (Y4 m c)
abbrev Y6 (c : Dev nD) : Valuation τ sig (Elt Ideal) := after hostOps0_14 (Y5 m c)

/-- The references `hostOps0_9` writes. -/
abbrev post9_W : List (Ref sig .tc) := [main_v93, main_cst_14]
theorem post9_writes : (hostOps0_9 : List (HloOp τ sig (Elt Ideal))).Forall fun op => op.writes ⊆ (post9_W.map (Proc.devRef (τ := τ) .tc)).toFinset :=
  StableHlo.forall_writes_sub_of_map rfl
/-- The references `hostOps0_10` writes. -/
abbrev post10_W : List (Ref sig .tc) := [main_call7_v0, main_call7_v1, main_v94]
theorem post10_writes : (hostOps0_10 : List (HloOp τ sig (Elt Ideal))).Forall fun op => op.writes ⊆ (post10_W.map (Proc.devRef (τ := τ) .tc)).toFinset :=
  StableHlo.forall_writes_sub_of_map rfl
/-- The references `hostOps0_11` writes. -/
abbrev post11_W : List (Ref sig .tc) := [main_values_15, main_indices_16, main_v95]
theorem post11_writes : (hostOps0_11 : List (HloOp τ sig (Elt Ideal))).Forall fun op => op.writes ⊆ (post11_W.map (Proc.devRef (τ := τ) .tc)).toFinset :=
  StableHlo.forall_writes_sub_of_map rfl
/-- The references `hostOps0_12` writes. -/
abbrev post12_W : List (Ref sig .tc) := [main_call8_c, main_call8_v0, main_call8_v1, main_call8_c_0, main_call8_v2, main_call8_v3, main_call8_v4, main_call8_c_1, main_call8_c_2, main_call8_v5, main_call8_v6, main_call8_v7, main_call8_v8, main_call8_v9, main_call8_v10, main_call8_c_3, main_call8_v11, main_call8_v12, main_call8_v13, main_call8_cst, main_call8_v14, main_v96]
theorem post12_writes : (hostOps0_12 : List (HloOp τ sig (Elt Ideal))).Forall fun op => op.writes ⊆ (post12_W.map (Proc.devRef (τ := τ) .tc)).toFinset :=
  StableHlo.forall_writes_sub_of_map rfl
/-- The references `hostOps0_13` writes. -/
abbrev post13_W : List (Ref sig .tc) := [main_call9_c, main_call9_v0, main_call9_v1, main_call9_c_0, main_call9_v2, main_call9_v3, main_call9_v4, main_call9_v5, main_call9_c_1, main_call9_c_2, main_call9_v6, main_call9_v7, main_call9_v8, main_call9_v9, main_call9_v10, main_call9_v11, main_call9_c_3, main_call9_v12, main_call9_v13, main_call9_cst, main_call9_v14, main_v97]
theorem post13_writes : (hostOps0_13 : List (HloOp τ sig (Elt Ideal))).Forall fun op => op.writes ⊆ (post13_W.map (Proc.devRef (τ := τ) .tc)).toFinset :=
  StableHlo.forall_writes_sub_of_map rfl
/-- The references `hostOps0_14` writes. -/
abbrev post14_W : List (Ref sig .tc) := [main_call10_c, main_call10_v0, main_call10_v1, main_call10_c_0, main_call10_v2, main_call10_v3, main_call10_v4, main_call10_v5, main_call10_c_1, main_call10_c_2, main_call10_v6, main_call10_v7, main_call10_v8, main_call10_v9, main_call10_v10, main_call10_v11, main_call10_c_3, main_call10_v12, main_call10_v13, main_call10_c_4, main_call10_v14, main_v98]
theorem post14_writes : (hostOps0_14 : List (HloOp τ sig (Elt Ideal))).Forall fun op => op.writes ⊆ (post14_W.map (Proc.devRef (τ := τ) .tc)).toFinset :=
  StableHlo.forall_writes_sub_of_map rfl
theorem Y1_of (c : Dev nD) (r : Ref sig .tc) (h : r ∉ post9_W) : Y1 m c (Proc.devRef .tc r) = Y0 m c (Proc.devRef .tc r) :=
  after_of_writes_sub hostOps0_9 _ post9_writes h
theorem Y2_of (c : Dev nD) (r : Ref sig .tc) (h : r ∉ post10_W) : Y2 m c (Proc.devRef .tc r) = Y1 m c (Proc.devRef .tc r) :=
  after_of_writes_sub hostOps0_10 _ post10_writes h
theorem Y3_of (c : Dev nD) (r : Ref sig .tc) (h : r ∉ post11_W) : Y3 m c (Proc.devRef .tc r) = Y2 m c (Proc.devRef .tc r) :=
  after_of_writes_sub hostOps0_11 _ post11_writes h
theorem Y4_of (c : Dev nD) (r : Ref sig .tc) (h : r ∉ post12_W) : Y4 m c (Proc.devRef .tc r) = Y3 m c (Proc.devRef .tc r) :=
  after_of_writes_sub hostOps0_12 _ post12_writes h
theorem Y5_of (c : Dev nD) (r : Ref sig .tc) (h : r ∉ post13_W) : Y5 m c (Proc.devRef .tc r) = Y4 m c (Proc.devRef .tc r) :=
  after_of_writes_sub hostOps0_13 _ post13_writes h
theorem Y6_of (c : Dev nD) (r : Ref sig .tc) (h : r ∉ post14_W) : Y6 m c (Proc.devRef .tc r) = Y5 m c (Proc.devRef .tc r) :=
  after_of_writes_sub hostOps0_14 _ post14_writes h

theorem final_eq (c : Dev nD) : finalContents condOps preI bodyI postI 1000 m c = Y6 m c := rfl

/-- A buffer the loop does not touch, just after it. -/
theorem Y0_of (c : Dev nD) (r : Ref sig .tc) (hc : r ∉ condOps_W) (h0 : r ∉ while0Ops0_W) (h1 : r ∉ while0Ops0_1_W) (h2 : r ∉ while0Ops0_2_W)
    (h3 : r ∉ while0Ops0_3_W) (h4 : r ∉ while0Ops0_4_W) (h5 : r ∉ while0Ops0_5_W) (h6 : r ∉ while0Ops0_6_W) :
    Y0 m c (Proc.devRef .tc r) = X9 m c (Proc.devRef .tc r) :=
  (after_of_writes_sub condOps _ condOps_writes hc).trans (loop_of m c r hc h0 h1 h2 h3 h4 h5 h6 1000)

/-! ## The arguments -/

theorem Y6_main_arg0 (c : Dev nD) : Y6 m c (Proc.devRef .tc main_arg0) = m ((c.tc : Thread nD τ).loc main_arg0) := by
  rw [Y6_of _ _ _ (by decide), Y5_of _ _ _ (by decide), Y4_of _ _ _ (by decide), Y3_of _ _ _ (by decide), Y2_of _ _ _ (by decide), Y1_of _ _ _ (by decide),
    Y0_of _ _ _ (by decide) (by decide) (by decide) (by decide) (by decide) (by decide) (by decide) (by decide),
    X9_of _ _ _ (by decide), X8_of _ _ _ (by decide), X7_of _ _ _ (by decide), X6_of _ _ _ (by decide), X5_of _ _ _ (by decide), X4_of _ _ _ (by decide), X3_of _ _ _ (by decide), X2_of _ _ _ (by decide), X1_of _ _ _ (by decide)]

theorem Y6_main_arg1 (c : Dev nD) : Y6 m c (Proc.devRef .tc main_arg1) = m ((c.tc : Thread nD τ).loc main_arg1) := by
  rw [Y6_of _ _ _ (by decide), Y5_of _ _ _ (by decide), Y4_of _ _ _ (by decide), Y3_of _ _ _ (by decide), Y2_of _ _ _ (by decide), Y1_of _ _ _ (by decide),
    Y0_of _ _ _ (by decide) (by decide) (by decide) (by decide) (by decide) (by decide) (by decide) (by decide),
    X9_of _ _ _ (by decide), X8_of _ _ _ (by decide), X7_of _ _ _ (by decide), X6_of _ _ _ (by decide), X5_of _ _ _ (by decide), X4_of _ _ _ (by decide), X3_of _ _ _ (by decide), X2_of _ _ _ (by decide), X1_of _ _ _ (by decide)]

theorem Y6_main_arg2 (c : Dev nD) : Y6 m c (Proc.devRef .tc main_arg2) = m ((c.tc : Thread nD τ).loc main_arg2) := by
  rw [Y6_of _ _ _ (by decide), Y5_of _ _ _ (by decide), Y4_of _ _ _ (by decide), Y3_of _ _ _ (by decide), Y2_of _ _ _ (by decide), Y1_of _ _ _ (by decide),
    Y0_of _ _ _ (by decide) (by decide) (by decide) (by decide) (by decide) (by decide) (by decide) (by decide),
    X9_of _ _ _ (by decide), X8_of _ _ _ (by decide), X7_of _ _ _ (by decide), X6_of _ _ _ (by decide), X5_of _ _ _ (by decide), X4_of _ _ _ (by decide), X3_of _ _ _ (by decide), X2_of _ _ _ (by decide), X1_of _ _ _ (by decide)]

theorem Y6_main_arg3 (c : Dev nD) : Y6 m c (Proc.devRef .tc main_arg3) = m ((c.tc : Thread nD τ).loc main_arg3) := by
  rw [Y6_of _ _ _ (by decide), Y5_of _ _ _ (by decide), Y4_of _ _ _ (by decide), Y3_of _ _ _ (by decide), Y2_of _ _ _ (by decide), Y1_of _ _ _ (by decide),
    Y0_of _ _ _ (by decide) (by decide) (by decide) (by decide) (by decide) (by decide) (by decide) (by decide),
    X9_of _ _ _ (by decide), X8_of _ _ _ (by decide), X7_of _ _ _ (by decide), X6_of _ _ _ (by decide), X5_of _ _ _ (by decide), X4_of _ _ _ (by decide), X3_of _ _ _ (by decide), X2_of _ _ _ (by decide), X1_of _ _ _ (by decide)]

theorem Y6_main_arg4 (c : Dev nD) : Y6 m c (Proc.devRef .tc main_arg4) = m ((c.tc : Thread nD τ).loc main_arg4) := by
  rw [Y6_of _ _ _ (by decide), Y5_of _ _ _ (by decide), Y4_of _ _ _ (by decide), Y3_of _ _ _ (by decide), Y2_of _ _ _ (by decide), Y1_of _ _ _ (by decide),
    Y0_of _ _ _ (by decide) (by decide) (by decide) (by decide) (by decide) (by decide) (by decide) (by decide),
    X9_of _ _ _ (by decide), X8_of _ _ _ (by decide), X7_of _ _ _ (by decide), X6_of _ _ _ (by decide), X5_of _ _ _ (by decide), X4_of _ _ _ (by decide), X3_of _ _ _ (by decide), X2_of _ _ _ (by decide), X1_of _ _ _ (by decide)]

/-- Where the program ends: results at the last valuation, arguments as launched. -/
def EndsAt (c : Dev nD) (s : MemSt nD τ sig (Elt Ideal)) : Prop :=
  (s.mem ((c.tc : Thread nD τ).loc main_v96) = Y6 m c (Proc.devRef .tc main_v96)
  ∧ s.mem ((c.tc : Thread nD τ).loc main_v97) = Y6 m c (Proc.devRef .tc main_v97)
  ∧ s.mem ((c.tc : Thread nD τ).loc main_v98) = Y6 m c (Proc.devRef .tc main_v98))
  ∧ s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)

/-- Every fair run of the reference ends, with the results at the last valuation, the arguments as launched and every
    semaphore at zero (it has none). -/
theorem reference_run (ρ : Dev nD → PrngReg) :
    θ_run defs (onTc (τ := τ) (main (F := Ideal))) ⟨m, fun _ => 0, ρ⟩ (fun r => (∀ c : Dev nD, EndsAt m c r.2) ∧ r.2.sem = fun _ => 0) := by
  refine (θ_run defs _ _).mono (fun r h => ⟨fun c => ?_, sem_eq_zero_of_no_sems (by decide) _⟩) (run_fold (F := Ideal) m ρ)
  exact ⟨⟨h c main_v96 rfl, h c main_v97 rfl, h c main_v98 rfl⟩, (h c main_arg0 rfl).trans (Y6_main_arg0 m c),
    (h c main_arg1 rfl).trans (Y6_main_arg1 m c), (h c main_arg2 rfl).trans (Y6_main_arg2 m c),
    (h c main_arg3 rfl).trans (Y6_main_arg3 m c), (h c main_arg4 rfl).trans (Y6_main_arg4 m c)⟩

end Cert.ReferenceIdeal.Hand

end
-- ==== Proof.R.Read.lean ====
/-
  The reference's host operations read at an index: scores, boxes, the selection and its gathers, for any arrays before them.
-/
module

public import proofs.«01_k».proof.Proof.R.Run
public import proofs.«01_k».proof.Proof.Math.Detect
public import proofs.«01_k».proof.Proof.Math.Take
public import Idealize.ShloMosaic.Lib.StableHlo.ReadAt
public import Idealize.ShloMosaic.Lib.Pointwise

@[expose] public section

namespace Cert.ReferenceIdeal.Hand
open Idealize.ShloMosaic Idealize.ShloMosaic.Tactic Cert.ReferenceIdeal Cert.ReferenceIdeal.Gen StableHlo Cert.Nms

variable (V : Valuation τ sig (Elt Ideal))

/-- One image of the head outputs. -/
abbrev headAt (b : Fin 16) : Head := fun a ch => V (Proc.devRef .tc main_arg0) (ix3 b a ch)
/-- The grid's table. -/
abbrev gridAt : Duo := fun a k => V (Proc.devRef .tc main_arg1) (ix2 a k)
/-- The anchors' table. -/
abbrev anchorAt : Duo := fun a k => V (Proc.devRef .tc main_arg2) (ix2 a k)
/-- The strides' table. -/
abbrev strideAt : Duo := fun a k => V (Proc.devRef .tc main_arg3) (ix2 a k)

/-- The flattened scores. -/
theorem flat_at (b : Fin 16) (q : Fin 1600000) : after hostOps0 V (Proc.devRef .tc main_v35) (ix2 b q) = flatScore (headAt V b) q := by
  after_reads_at
  rfl

/-- The selected scores. -/
theorem values_at (b : Fin 16) (r : Fin 1000) : after hostOps0 V (Proc.devRef .tc main_values) (ix2 b r) = val (headAt V b) r := by
  after_reads_at
  exact topK_vals _ _ (by decide) b r

/-- The selected flat positions. -/
theorem indices_at (b : Fin 16) (r : Fin 1000) :
    after hostOps0 V (Proc.devRef .tc main_indices) (ix2 b r) = BitVec.ofNat 32 (pick (headAt V b) r).val := by
  after_reads_at
  exact topK_idx _ _ (by decide) b r

/-- The number of classes. -/
theorem c80_at : after hostOps0 V (Proc.devRef .tc main_c) ix0 = 80#32 := by
  after_reads_at

/-- The decoded boxes. -/
theorem box_at (b : Fin 16) (a : Fin 20000) (k : Fin 4) :
    after hostOps0 V (Proc.devRef .tc main_v34) (ix3 b a k) = box (headAt V b) (gridAt V) (anchorAt V) (strideAt V) a k := by
  match k with
  | 0 => after_reads_at; rfl
  | 1 => after_reads_at; rfl
  | 2 => after_reads_at; rfl
  | 3 => after_reads_at; rfl

/-- The anchors of the selected pairs. -/
theorem quot_at (b : Fin 16) (r : Fin 1000) (p : Nat) (hp : p < 2 ^ 31) (hi : V (Proc.devRef .tc main_indices) (ix2 b r) = BitVec.ofNat 32 p)
    (hc : V (Proc.devRef .tc main_c) ix0 = 80#32) :
    after hostOps0_1 V (Proc.devRef .tc main_v36) (ix2 b r) = BitVec.ofNat 32 (p / 80) := by
  after_reads_at
  simp only [id_eq, hi, hc]
  refine floor_div_80 hp _ _ (fun h0 => ?_) rfl
  rw [if_neg (fun e => h0 (by have := congrArg BitVec.toNat e; rw [BitVec.toNat_ofNat] at this; simp at this; omega)), msb_small hp]
  rfl

theorem c80b_at : after hostOps0_2 V (Proc.devRef .tc main_c_6) ix0 = 80#32 := by
  after_reads_at

/-- The classes of the selected pairs. -/
theorem rem_at (b : Fin 16) (r : Fin 1000) (p : Nat) (hp : p < 2 ^ 31) (hi : V (Proc.devRef .tc main_indices) (ix2 b r) = BitVec.ofNat 32 p)
    (hc : V (Proc.devRef .tc main_c_6) ix0 = 80#32) :
    after hostOps0_3 V (Proc.devRef .tc main_v37) (ix2 b r) = BitVec.ofNat 32 (p % 80) := by
  after_reads_at
  simp only [id_eq, hi, hc]
  exact rem_80 hp

theorem v38_at (b : Fin 16) (r : Fin 1000) :
    after hostOps0_4 V (Proc.devRef .tc main_v38) (ix3 b r (0 : Fin 1)) = V (Proc.devRef .tc main_v36) (ix2 b r) := by
  after_reads_at

/-- The selected pairs' boxes. -/
theorem v39_at (b : Fin 16) (r : Fin 1000) (k : Fin 4) (p : Fin 20000)
    (hi : V (Proc.devRef .tc main_v38) (ix3 b r (0 : Fin 1)) = BitVec.ofNat 32 p.val) :
    after hostOps0_5 V (Proc.devRef .tc main_v39) (ix3 b r k) = V (Proc.devRef .tc main_v34) (ix3 b p k) := by
  have hp := p.isLt
  after_reads_at
  rw [fold_one _ (by rw [hi, wrap_word (by omega)]; exact mask_word (by omega) (by decide))]
  refine gather3 _ _ _ b r k p (by decide) ?_
  pointwise
  rw [hi, wrap_word (by omega)]

/-- The threshold on the scores. -/
theorem v41_at (b : Fin 16) (r : Fin 1000) : after hostOps0_6 V (Proc.devRef .tc main_v41) (ix2 b r)
    = BitVec.ofBool (decide (Ideal.ofBits .f32 1028443341#32 < V (Proc.devRef .tc main_values) (ix2 b r))) := by
  after_reads_at

/-- What is kept and above the threshold. -/
theorem v93_at (b : Fin 16) (r : Fin 1000) : after hostOps0_9 V (Proc.devRef .tc main_v93) (ix2 b r)
    = IntOp.andi (V (Proc.devRef .tc main_v92_4) (ix2 b r)) (V (Proc.devRef .tc main_v41) (ix2 b r)) := by
  after_reads_at
theorem cst14_at : after hostOps0_9 V (Proc.devRef .tc main_cst_14) ix0 = Ideal.ofBits .f32 3212836864#32 := by
  after_reads_at

/-- The kept scores. -/
theorem v94_at (b : Fin 16) (r : Fin 1000) : after hostOps0_10 V (Proc.devRef .tc main_v94) (ix2 b r)
    = Scalar.select (V (Proc.devRef .tc main_v93) (ix2 b r)) (V (Proc.devRef .tc main_values) (ix2 b r)) (V (Proc.devRef .tc main_cst_14) ix0) := by
  after_reads_at
  rfl

/-- The positions of the best of them. -/
theorem indices16_at (b : Fin 16) (s : Fin 300) : after hostOps0_11 V (Proc.devRef .tc main_indices_16) (ix2 b s)
    = BitVec.ofNat 32 (top (fun q => V (Proc.devRef .tc main_v94) (ix2 b q)) (s.castLE (by decide))).val := by
  after_reads_at
  exact topK_idx _ _ (by decide) b s
theorem v95_at (b : Fin 16) (s : Fin 300) : after hostOps0_11 V (Proc.devRef .tc main_v95) (ix3 b s (0 : Fin 1))
    = BitVec.ofNat 32 (top (fun q => V (Proc.devRef .tc main_v94) (ix2 b q)) (s.castLE (by decide))).val := by
  after_reads_at
  exact topK_idx _ _ (by decide) b s

/-- The boxes returned. -/
theorem v96_at (b : Fin 16) (s : Fin 300) (k : Fin 4) (p : Fin 1000)
    (hi : V (Proc.devRef .tc main_v95) (ix3 b s (0 : Fin 1)) = BitVec.ofNat 32 p.val) :
    after hostOps0_12 V (Proc.devRef .tc main_v96) (ix3 b s k) = V (Proc.devRef .tc main_v39) (ix3 b p k) := by
  have hp := p.isLt
  after_reads_at
  rw [fold_one _ (by rw [hi, wrap_word (by omega)]; exact mask_word (by omega) (by decide))]
  refine gather3 _ _ _ b s k p (by decide) ?_
  pointwise
  rw [hi, wrap_word (by omega)]

/-- The scores returned. -/
theorem v97_at (b : Fin 16) (s : Fin 300) (p : Fin 1000)
    (hi : V (Proc.devRef .tc main_indices_16) (ix2 b s) = BitVec.ofNat 32 p.val) :
    after hostOps0_13 V (Proc.devRef .tc main_v97) (ix2 b s) = V (Proc.devRef .tc main_v94) (ix2 b p) := by
  have hp := p.isLt
  after_reads_at
  rw [fold_one _ (by rw [hi, wrap_word (by omega)]; exact mask_word (by omega) (by decide))]
  refine gather2 _ _ _ b s p (by decide) ?_
  pointwise
  rw [hi, wrap_word (by omega)]

/-- The classes returned. -/
theorem v98_at (b : Fin 16) (s : Fin 300) (p : Fin 1000)
    (hi : V (Proc.devRef .tc main_indices_16) (ix2 b s) = BitVec.ofNat 32 p.val) :
    after hostOps0_14 V (Proc.devRef .tc main_v98) (ix2 b s) = V (Proc.devRef .tc main_v37) (ix2 b p) := by
  have hp := p.isLt
  after_reads_at
  rw [fold_one _ (by rw [hi, wrap_word (by omega)]; exact mask_word (by omega) (by decide))]
  refine gather2 _ _ _ b s p (by decide) ?_
  pointwise
  rw [hi, wrap_word (by omega)]

end Cert.ReferenceIdeal.Hand
end
-- ==== Proof.R.Overlap.lean ====
/-
  The reference's overlaps of the selected boxes, and the loop's start, read at an index.
-/
module

public import proofs.«01_k».proof.Proof.R.Run
public import proofs.«01_k».proof.Proof.Math.Detect
public import Idealize.ShloMosaic.Lib.StableHlo.ReadAt
public import Idealize.ShloMosaic.Lib.Pointwise

@[expose] public section

namespace Cert.ReferenceIdeal.Hand
open Idealize.ShloMosaic Idealize.ShloMosaic.Tactic Cert.ReferenceIdeal Cert.ReferenceIdeal.Gen StableHlo Cert.Nms

variable (V : Valuation τ sig (Elt Ideal))

/-- A selected box. -/
abbrev v39 (b : Fin 16) (r : Fin 1000) (k : Fin 4) : EReal := V (Proc.devRef .tc main_v39) (ix3 b r k)
/-- The area of a moved box. -/
abbrev v58 (b : Fin 16) (r : Fin 1000) : EReal := V (Proc.devRef .tc main_v58) (ix2 b r)
/-- A side of the meet of two boxes. -/
abbrev v73 (b : Fin 16) (i j : Fin 1000) (k : Fin 2) : EReal := V (Proc.devRef .tc main_v73) (ix4 b i j k)
/-- A side of the meet of two boxes, not negative. -/
abbrev v74 (b : Fin 16) (i j : Fin 1000) (k : Fin 2) : EReal := V (Proc.devRef .tc main_v74) (ix4 b i j k)
/-- The clip's bound. -/
abbrev bound : EReal := V (Proc.devRef .tc main_cst_9) ix0

/-- A box moved by its class. -/
noncomputable abbrev movedAt (b : Fin 16) (r : Fin 1000) (k : Fin 4) : EReal :=
  v39 V b r k + FloatOps.sitofp (F := Ideal) .f32 (V (Proc.devRef .tc main_v37) (ix2 b r)) * Ideal.ofBits .f32 1166016512#32

theorem area_at (b : Fin 16) (r : Fin 1000) : after hostOps0_6 V (Proc.devRef .tc main_v58) (ix2 b r)
    = (movedAt V b r 2 - movedAt V b r 0) * (movedAt V b r 3 - movedAt V b r 1) := by
  after_reads_at
theorem side0_at (b : Fin 16) (i j : Fin 1000) : after hostOps0_6 V (Proc.devRef .tc main_v73) (ix4 b i j (0 : Fin 2))
    = min (movedAt V b i 2) (movedAt V b j 2) - max (movedAt V b i 0) (movedAt V b j 0) := by
  after_reads_at
theorem side1_at (b : Fin 16) (i j : Fin 1000) : after hostOps0_6 V (Proc.devRef .tc main_v73) (ix4 b i j (1 : Fin 2))
    = min (movedAt V b i 3) (movedAt V b j 3) - max (movedAt V b i 1) (movedAt V b j 1) := by
  after_reads_at
theorem cst9_at : after hostOps0_6 V (Proc.devRef .tc main_cst_9) ix0 = (0 : EReal) := by
  after_reads_at
theorem clip_at (b : Fin 16) (i j : Fin 1000) (k : Fin 2) : after hostOps0_7 V (Proc.devRef .tc main_v74) (ix4 b i j k)
    = max (bound V) (v73 V b i j k) := by
  after_reads_at
  rfl

/-- The loop's table of overlaps. -/
theorem over_at (b : Fin 16) (i j : Fin 1000) : after hostOps0_8 V (Proc.devRef .tc main_v92_0) (ix3 b i j)
    = BitVec.ofBool (decide (Ideal.ofBits .f32 1056964608#32 < Ideal.div
        (v74 V b i j 0 * v74 V b i j 1)
        (max (v58 V b i + v58 V b j - v74 V b i j 0 * v74 V b i j 1) (Ideal.ofBits .f32 814313567#32)))) := by
  after_reads_at
  simp only [id_eq]
  pointwise

theorem start4_at (b : Fin 16) (r : Fin 1000) : after hostOps0_8 V (Proc.devRef .tc main_v92_4) (ix2 b r) = V (Proc.devRef .tc main_v41) (ix2 b r) := by
  after_reads_at
  rfl
theorem start1_at (r : Fin 1000) : after hostOps0_8 V (Proc.devRef .tc main_v92_1) (ix1 r) = BitVec.ofNat 32 r.val := by
  after_reads_at
  rfl
theorem start3_at : after hostOps0_8 V (Proc.devRef .tc main_v92_3) ix0 = 0#32 := by
  after_reads_at
  rfl

end Cert.ReferenceIdeal.Hand
end
-- ==== Proof.R.Loop.lean ====
/-
  The reference's suppression loop: its row after the steps is the kept boxes' row.
-/
module

public import proofs.«01_k».proof.Proof.R.Run
public import proofs.«01_k».proof.Proof.Sweep
public import proofs.«01_k».proof.Proof.Math.Take
public import proofs.«01_k».proof.Proof.Math.Bits
public import Idealize.ShloMosaic.Lib.DynamicIndex
public import Idealize.ShloMosaic.Lib.StableHlo.ReadAt
public import Idealize.ShloMosaic.Lib.Pointwise

@[expose] public section

namespace Cert.ReferenceIdeal.Hand
open Idealize.ShloMosaic Idealize.ShloMosaic.Tactic Cert.ReferenceIdeal Cert.ReferenceIdeal.Gen Cert.ReferenceIdeal.Value StableHlo Cert.Nms

/-- A column at a position in range. -/
theorem column_at {α : Type} (x : S16x1000.Idx → α) (start : Fin 2 → Int) (h) (m : Fin 1000) (h0 : start 0 = 0) (h1 : start 1 = (m.val : Int)) (b : Fin 16) :
    Host.dynamicSlice (s := S16x1000) S16x1 x start h (ix2 b (0 : Fin 1)) = x (ix2 b m) := by
  rw [Host.dynamicSlice_eq_extractStridedSlice S16x1 x start ![0, m.val] h
    ⟨rfl, fun a => by match a with | ⟨0, _⟩ => exact le_rfl | ⟨1, _⟩ => exact m.isLt⟩
    (fun a => by match a with | ⟨0, _⟩ => exact h0 | ⟨1, _⟩ => exact h1)]
  refine congrArg x ?_
  funext a
  match a with
  | ⟨0, _⟩ => exact Fin.ext (Nat.zero_add _)
  | ⟨1, _⟩ => exact Fin.ext rfl

/-- A row of the table of overlaps at a position in range. -/
theorem row_at {α : Type} (x : S16x1000x1000.Idx → α) (start : Fin 3 → Int) (h) (m : Fin 1000) (h0 : start 0 = 0) (h1 : start 1 = (m.val : Int))
    (h2 : start 2 = 0) (b : Fin 16) (j : Fin 1000) :
    Host.dynamicSlice (s := S16x1000x1000) S16x1x1000 x start h (ix3 b (0 : Fin 1) j) = x (ix3 b m j) := by
  rw [Host.dynamicSlice_eq_extractStridedSlice S16x1x1000 x start ![0, m.val, 0] h
    ⟨rfl, fun a => by match a with | ⟨0, _⟩ => exact le_rfl | ⟨1, _⟩ => exact m.isLt | ⟨2, _⟩ => exact le_rfl⟩
    (fun a => by match a with | ⟨0, _⟩ => exact h0 | ⟨1, _⟩ => exact h1 | ⟨2, _⟩ => exact h2)]
  refine congrArg x ?_
  funext a
  match a with
  | ⟨0, _⟩ => exact Fin.ext (Nat.zero_add _)
  | ⟨1, _⟩ => exact Fin.ext rfl
  | ⟨2, _⟩ => exact Fin.ext (Nat.zero_add _)

variable (V : Valuation τ sig (Elt Ideal))

/-- The loop's index as a start. -/
theorem index_start (m : Fin 1000) (h3 : V (Proc.devRef .tc main_v92_3) ix0 = BitVec.ofNat 32 m.val) :
    BitVec.toInt (select (cmpi .slt (V (Proc.devRef .tc main_v92_3)) (constantI S_ 32 0#32)) (addi (id (V (Proc.devRef .tc main_v92_3))) (constantI S_ 32 1000#32))
      (V (Proc.devRef .tc main_v92_3)) (Shape.Idx.first h_S_)) = (m.val : Int) := by
  have e : (Shape.Idx.first h_S_ : S_.Idx) = ix0 := funext fun a => a.elim0
  rw [e]
  have hm := m.isLt
  show BitVec.toInt (Scalar.select (IntOp.cmpi .slt (V (Proc.devRef .tc main_v92_3) ix0) 0#32) (IntOp.addi (V (Proc.devRef .tc main_v92_3) ix0) 1000#32)
    (V (Proc.devRef .tc main_v92_3) ix0)) = _
  rw [h3, wrap_word (by omega), word_toInt (by omega)]

/-- One step of the loop, at an index. -/
theorem step_at (m : Fin 1000) (h3 : V (Proc.devRef .tc main_v92_3) ix0 = BitVec.ofNat 32 m.val) (b : Fin 16) (j : Fin 1000) :
    step_main_v92_4 V (ix2 b j) = Scalar.select (V (Proc.devRef .tc main_v92_4) (ix2 b m))
      (IntOp.andi (V (Proc.devRef .tc main_v92_4) (ix2 b j)) (~~~ (IntOp.andi (V (Proc.devRef .tc main_v92_0) (ix3 b m j))
        (IntOp.cmpi .sgt (V (Proc.devRef .tc main_v92_1) (ix1 j)) (BitVec.ofNat 32 m.val)))))
      (V (Proc.devRef .tc main_v92_4) (ix2 b j)) := by
  unfold step_main_v92_4
  rw [← h3]
  rw [← column_at (V (Proc.devRef .tc main_v92_4)) (fun k => (((![constantI S_ 32 0#32, select (cmpi .slt (V (Proc.devRef .tc main_v92_3)) (constantI S_ 32 0#32)) (addi (id (V (Proc.devRef .tc main_v92_3))) (constantI S_ 32 1000#32)) (V (Proc.devRef .tc main_v92_3))] : Fin 2 → (⟨S_, .i32⟩ : BufTy).Contents (Elt Ideal))) k (Shape.Idx.first h_S_)).toInt)
    sliceFits_S16x1000_S16x1 m rfl (index_start V m h3) b]
  rw [← row_at (V (Proc.devRef .tc main_v92_0)) (fun k => (((![constantI S_ 32 0#32, select (cmpi .slt (V (Proc.devRef .tc main_v92_3)) (constantI S_ 32 0#32)) (addi (id (V (Proc.devRef .tc main_v92_3))) (constantI S_ 32 1000#32)) (V (Proc.devRef .tc main_v92_3)), constantI S_ 32 0#32] : Fin 3 → (⟨S_, .i32⟩ : BufTy).Contents (Elt Ideal))) k (Shape.Idx.first h_S_)).toInt)
    sliceFits_S16x1000x1000_S16x1x1000 m rfl (index_start V m h3) rfl b j]
  simp only [id_eq]
  generalize Host.dynamicSlice S16x1 _ _ _ = c1
  generalize Host.dynamicSlice S16x1x1000 _ _ _ = c2
  pointwise

/-- What the loop carries before step `k`. -/
structure Carried (valid : Fin 16 → Fin 1000 → Prop) (sup : Fin 16 → Fin 1000 → Fin 1000 → Prop) (k : ℕ) (W : Valuation τ sig (Elt Ideal)) : Prop where
  index : W (Proc.devRef .tc main_v92_3) ix0 = BitVec.ofNat 32 k
  iota : ∀ r : Fin 1000, W (Proc.devRef .tc main_v92_1) (ix1 r) = BitVec.ofNat 32 r.val
  table : ∀ b i j, (W (Proc.devRef .tc main_v92_0) (ix3 b i j) = 1#1 ↔ sup b i j)
  row : ∀ b j, (W (Proc.devRef .tc main_v92_4) (ix2 b j) = 1#1 ↔ upto (valid b) (sup b) k j)

variable {V}

theorem carried_step {valid : Fin 16 → Fin 1000 → Prop} {sup : Fin 16 → Fin 1000 → Fin 1000 → Prop} {m : Fin 1000}
    (h : Carried valid sup m.val V) : Carried valid sup (m.val + 1) (STEP V) where
  index := by
    rw [STEP_main_v92_3]
    show IntOp.addi (V (Proc.devRef .tc main_v92_3) ix0) 1#32 = _
    rw [h.index]
    show BitVec.ofNat 32 m.val + BitVec.ofNat 32 1 = _
    rw [BitVec.ofNat_add]
  iota r := by rw [STEP_main_v92_1]; exact h.iota r
  table b i j := by rw [STEP_main_v92_0]; exact h.table b i j
  row b j := by
    have hm := m.isLt
    have hj := j.isLt
    rw [STEP_main_v92_4, step_at V m h.index, bit_select, bit_and, bit_not, bit_and, h.iota, bit_gt (by omega) (by omega), h.table, h.row, h.row,
      upto_succ (valid b) (sup b) m j]
    show (upto (valid b) (sup b) m m → _) ∧ _ ↔ _
    tauto

/-- After `k` steps. -/
theorem carried_iter {valid : Fin 16 → Fin 1000 → Prop} {sup : Fin 16 → Fin 1000 → Fin 1000 → Prop} (h : Carried valid sup 0 V) :
    ∀ k, k ≤ 1000 → Carried valid sup k (STEP^[k] V)
  | 0, _ => h
  | k + 1, hk => by
    rw [Function.iterate_succ_apply']
    exact carried_step (m := ⟨k, by omega⟩) (carried_iter h k (by omega))

/-- After all of them the row is the kept boxes'. -/
theorem carried_keep {valid : Fin 16 → Fin 1000 → Prop} {sup : Fin 16 → Fin 1000 → Fin 1000 → Prop} (h : Carried valid sup 0 V) (b : Fin 16) (j : Fin 1000) :
    STEP^[1000] V (Proc.devRef .tc main_v92_4) (ix2 b j) = 1#1 ↔ keep (valid b) (sup b) j :=
  ((carried_iter h 1000 le_rfl).row b j).trans (upto_keep (valid b) (sup b) 1000 j (by have := j.isLt; omega))

end Cert.ReferenceIdeal.Hand
end
-- ==== Proof.R.Result.lean ====
/-
  The reference's three results: the kept boxes of each image, best first, their scores and their classes.
-/
module

public import proofs.«01_k».proof.Proof.R.Read
public import proofs.«01_k».proof.Proof.R.Overlap
public import proofs.«01_k».proof.Proof.R.Loop

@[expose] public section

namespace Cert.ReferenceIdeal.Hand
open Idealize.ShloMosaic Idealize.ShloMosaic.Tactic Cert.ReferenceIdeal Cert.ReferenceIdeal.Gen Cert.ReferenceIdeal.Value StableHlo Cert.Nms

variable (m : (ℓ : Loc nD τ sig) → Buf (Elt Ideal) ℓ) (c : Dev nD)

/-- An image's head outputs at launch. -/
noncomputable abbrev hd (b : Fin 16) : Head := headAt (X0 m c) b
/-- An image's selected boxes. -/
noncomputable abbrev bx (b : Fin 16) : Fin 1000 → Fin 4 → EReal := cand (hd m c b) (gridAt (X0 m c)) (anchorAt (X0 m c)) (strideAt (X0 m c))
/-- The boxes that an image keeps, best first. -/
noncomputable abbrev bst (b : Fin 16) (s : Fin 300) : Fin 1000 := best (bx m c b) (val (hd m c b)) (lab (hd m c b)) s

theorem pick_lt (X : Head) (r : Fin 1000) : (pick X r).val < 1600000 := (pick X r).isLt

theorem x1_indices (b r) : X1 m c (Proc.devRef .tc main_indices) (ix2 b r) = BitVec.ofNat 32 (pick (hd m c b) r).val := indices_at _ b r
theorem x1_values (b r) : X1 m c (Proc.devRef .tc main_values) (ix2 b r) = val (hd m c b) r := values_at _ b r
theorem x2_quot (b r) : X2 m c (Proc.devRef .tc main_v36) (ix2 b r) = BitVec.ofNat 32 (anc (hd m c b) r).val :=
  quot_at _ b r _ (by have := pick_lt (hd m c b) r; omega) (x1_indices m c b r) (c80_at _)
theorem x4_rem (b r) : X4 m c (Proc.devRef .tc main_v37) (ix2 b r) = BitVec.ofNat 32 (lab (hd m c b) r) := by
  refine rem_at _ b r _ (by have := pick_lt (hd m c b) r; omega) ?_ (c80b_at _)
  rw [X3_of _ _ _ (by decide), X2_of _ _ _ (by decide), x1_indices]
theorem x5_anc (b r) : X5 m c (Proc.devRef .tc main_v38) (ix3 b r (0 : Fin 1)) = BitVec.ofNat 32 (anc (hd m c b) r).val := by
  refine (v38_at _ b r).trans ?_
  rw [X4_of _ _ _ (by decide), X3_of _ _ _ (by decide), x2_quot]
theorem x6_box (b r k) : X6 m c (Proc.devRef .tc main_v39) (ix3 b r k) = bx m c b r k := by
  refine (v39_at _ b r k _ (x5_anc m c b r)).trans ?_
  rw [X5_of _ _ _ (by decide), X4_of _ _ _ (by decide), X3_of _ _ _ (by decide), X2_of _ _ _ (by decide)]
  exact box_at _ b _ k
theorem x6_moved (b r k) : movedAt (X6 m c) b r k = shift (bx m c b) (lab (hd m c b)) r k := by
  unfold movedAt shift v39
  rw [x6_box, X6_of _ _ _ (by decide), X5_of _ _ _ (by decide), x4_rem]
theorem x6_values (b r) : X6 m c (Proc.devRef .tc main_values) (ix2 b r) = val (hd m c b) r := by
  rw [X6_of _ _ _ (by decide), X5_of _ _ _ (by decide), X4_of _ _ _ (by decide), X3_of _ _ _ (by decide), X2_of _ _ _ (by decide), x1_values]
theorem x8_valid (b r) : X8 m c (Proc.devRef .tc main_v41) (ix2 b r) = 1#1 ↔ valid (val (hd m c b)) r := by
  rw [X8_of _ _ _ (by decide), show X7 m c (Proc.devRef .tc main_v41) (ix2 b r) = _ from v41_at _ b r, x6_values]
  exact bit_decide _
/-- The areas, and the sides of the meets. -/
theorem x8_area (b r) : v58 (X8 m c) b r = (shift (bx m c b) (lab (hd m c b)) r 2 - shift (bx m c b) (lab (hd m c b)) r 0)
    * (shift (bx m c b) (lab (hd m c b)) r 3 - shift (bx m c b) (lab (hd m c b)) r 1) := by
  unfold v58
  rw [X8_of _ _ _ (by decide)]
  refine (area_at _ b r).trans ?_
  rw [x6_moved m c b r 2, x6_moved m c b r 0, x6_moved m c b r 3, x6_moved m c b r 1]
theorem x8_side0 (b i j) : v74 (X8 m c) b i j 0 = max 0 (min (shift (bx m c b) (lab (hd m c b)) i 2) (shift (bx m c b) (lab (hd m c b)) j 2)
    - max (shift (bx m c b) (lab (hd m c b)) i 0) (shift (bx m c b) (lab (hd m c b)) j 0)) := by
  refine (clip_at _ b i j 0).trans ?_
  rw [show bound (X7 m c) = 0 from cst9_at _, show v73 (X7 m c) b i j 0 = _ from side0_at _ b i j]
  rw [x6_moved m c b i 2, x6_moved m c b j 2, x6_moved m c b i 0, x6_moved m c b j 0]
theorem x8_side1 (b i j) : v74 (X8 m c) b i j 1 = max 0 (min (shift (bx m c b) (lab (hd m c b)) i 3) (shift (bx m c b) (lab (hd m c b)) j 3)
    - max (shift (bx m c b) (lab (hd m c b)) i 1) (shift (bx m c b) (lab (hd m c b)) j 1)) := by
  refine (clip_at _ b i j 1).trans ?_
  rw [show bound (X7 m c) = 0 from cst9_at _, show v73 (X7 m c) b i j 1 = _ from side1_at _ b i j]
  rw [x6_moved m c b i 3, x6_moved m c b j 3, x6_moved m c b i 1, x6_moved m c b j 1]
theorem x9_over (b i j) : X9 m c (Proc.devRef .tc main_v92_0) (ix3 b i j) = 1#1 ↔ over (bx m c b) (lab (hd m c b)) i j := by
  rw [show X9 m c (Proc.devRef .tc main_v92_0) (ix3 b i j) = _ from over_at _ b i j, x8_area, x8_area, x8_side0, x8_side1]
  exact bit_decide _

/-- What the loop starts from. -/
theorem x9_carried : Carried (fun b => valid (val (hd m c b))) (fun b => over (bx m c b) (lab (hd m c b))) 0 (X9 m c) where
  index := start3_at _
  iota r := start1_at _ r
  table b i j := x9_over m c b i j
  row b j := by
    rw [show X9 m c (Proc.devRef .tc main_v92_4) (ix2 b j) = _ from start4_at _ b j, x8_valid]
    exact (upto_zero _ _ j).symm

/-- The loop's row at its end. -/
theorem y0_keep (b j) : Y0 m c (Proc.devRef .tc main_v92_4) (ix2 b j) = 1#1 ↔ keep (valid (val (hd m c b))) (over (bx m c b) (lab (hd m c b))) j := by
  rw [show Y0 m c (Proc.devRef .tc main_v92_4) = _ from cond_keeps (atK m 1000 c) main_v92_4 (by decide), atK_agree m c 1000 main_v92_4 (by decide), entry_eq]
  exact carried_keep (x9_carried m c) b j
theorem y0_of_x6 (r : Ref sig .tc) (hc : r ∉ condOps_W) (h0 : r ∉ while0Ops0_W) (h1 : r ∉ while0Ops0_1_W) (h2 : r ∉ while0Ops0_2_W)
    (h3 : r ∉ while0Ops0_3_W) (h4 : r ∉ while0Ops0_4_W) (h5 : r ∉ while0Ops0_5_W) (h6 : r ∉ while0Ops0_6_W) (h7 : r ∉ hostOps0_6_W) (h8 : r ∉ hostOps0_7_W)
    (h9 : r ∉ hostOps0_8_W) : Y0 m c (Proc.devRef .tc r) = X6 m c (Proc.devRef .tc r) := by
  rw [Y0_of m c r hc h0 h1 h2 h3 h4 h5 h6, X9_of m c r h9, X8_of m c r h8, X7_of m c r h7]
theorem y0_valid (b r) : Y0 m c (Proc.devRef .tc main_v41) (ix2 b r) = 1#1 ↔ valid (val (hd m c b)) r := by
  rw [Y0_of _ _ _ (by decide) (by decide) (by decide) (by decide) (by decide) (by decide) (by decide) (by decide), X9_of _ _ _ (by decide), x8_valid]
theorem y1_values (b r) : Y1 m c (Proc.devRef .tc main_values) (ix2 b r) = val (hd m c b) r := by
  rw [Y1_of _ _ _ (by decide), y0_of_x6 _ _ _ (by decide) (by decide) (by decide) (by decide) (by decide) (by decide) (by decide) (by decide) (by decide) (by decide) (by decide),
    x6_values]

/-- The scores after the suppression. -/
theorem y2_sel (b r) : Y2 m c (Proc.devRef .tc main_v94) (ix2 b r) = sel (bx m c b) (val (hd m c b)) (lab (hd m c b)) r := by
  have h : Y1 m c (Proc.devRef .tc main_v93) (ix2 b r) = 1#1 ↔ keep (valid (val (hd m c b))) (over (bx m c b) (lab (hd m c b))) r ∧ valid (val (hd m c b)) r := by
    rw [show Y1 m c (Proc.devRef .tc main_v93) (ix2 b r) = _ from v93_at _ b r, bit_and, y0_keep, y0_valid]
  refine (v94_at _ b r).trans ?_
  rw [y1_values, show Y1 m c (Proc.devRef .tc main_cst_14) ix0 = _ from cst14_at _]
  unfold sel Scalar.select
  by_cases hk : keep (valid (val (hd m c b))) (over (bx m c b) (lab (hd m c b))) r ∧ valid (val (hd m c b)) r
  · rw [if_pos hk]; exact if_pos (h.mpr hk)
  · rw [if_neg hk]; exact if_neg fun e => hk (h.mp e)

theorem y3_best (b s) : Y3 m c (Proc.devRef .tc main_indices_16) (ix2 b s) = BitVec.ofNat 32 (bst m c b s).val := by
  refine (indices16_at _ b s).trans ?_
  rw [show (fun q => Y2 m c (Proc.devRef .tc main_v94) (ix2 b q)) = sel (bx m c b) (val (hd m c b)) (lab (hd m c b)) from funext fun q => y2_sel m c b q]
  rfl
theorem y3_best' (b s) : Y3 m c (Proc.devRef .tc main_v95) (ix3 b s (0 : Fin 1)) = BitVec.ofNat 32 (bst m c b s).val := by
  refine (v95_at _ b s).trans ?_
  rw [show (fun q => Y2 m c (Proc.devRef .tc main_v94) (ix2 b q)) = sel (bx m c b) (val (hd m c b)) (lab (hd m c b)) from funext fun q => y2_sel m c b q]
  rfl

/-- The first result: the boxes. -/
theorem result0 (b s k) : Y6 m c (Proc.devRef .tc main_v96) (ix3 b s k) = bx m c b (bst m c b s) k := by
  rw [Y6_of _ _ _ (by decide), Y5_of _ _ _ (by decide)]
  refine (v96_at _ b s k _ (y3_best' m c b s)).trans ?_
  rw [Y3_of _ _ _ (by decide), Y2_of _ _ _ (by decide), Y1_of _ _ _ (by decide),
    y0_of_x6 _ _ _ (by decide) (by decide) (by decide) (by decide) (by decide) (by decide) (by decide) (by decide) (by decide) (by decide) (by decide), x6_box]
/-- The second result: the scores. -/
theorem result1 (b s) : Y6 m c (Proc.devRef .tc main_v97) (ix2 b s) = sel (bx m c b) (val (hd m c b)) (lab (hd m c b)) (bst m c b s) := by
  rw [Y6_of _ _ _ (by decide)]
  refine (v97_at _ b s (bst m c b s) ?_).trans ?_
  · rw [Y4_of _ _ _ (by decide), y3_best]
  · rw [Y4_of _ _ _ (by decide), Y3_of _ _ _ (by decide), y2_sel]
/-- The third result: the classes. -/
theorem result2 (b s) : Y6 m c (Proc.devRef .tc main_v98) (ix2 b s) = BitVec.ofNat 32 (lab (hd m c b) (bst m c b s)) := by
  refine (v98_at _ b s (bst m c b s) ?_).trans ?_
  · rw [Y5_of _ _ _ (by decide), Y4_of _ _ _ (by decide), y3_best]
  · rw [Y5_of _ _ _ (by decide), Y4_of _ _ _ (by decide), Y3_of _ _ _ (by decide), Y2_of _ _ _ (by decide), Y1_of _ _ _ (by decide),
      y0_of_x6 _ _ _ (by decide) (by decide) (by decide) (by decide) (by decide) (by decide) (by decide) (by decide) (by decide) (by decide) (by decide),
      X6_of _ _ _ (by decide), X5_of _ _ _ (by decide), x4_rem]

end Cert.ReferenceIdeal.Hand
end
-- ==== Proof.lean ====
/-
  The claims about the kernel program and the reference: both run to the end at ideal numbers and leave their arguments,
  and from equal arguments they give the same boxes, scores and classes.
-/
module

public import proofs.«01_k».proof.Defs
public import proofs.«01_k».proof.Proof.Gen.KernelIdeal
public import proofs.«01_k».proof.Proof.Gen.ReferenceIdeal
public import proofs.«01_k».proof.Proof.K.Result
public import proofs.«01_k».proof.Proof.R.Result
public import Idealize.ShloMosaic.Adequacy
public import Idealize.ShloMosaic.Init

@[expose] public section

noncomputable section

namespace Cert.Proof

open Idealize.ShloMosaic Idealize.SL.Sem

/-- The kernel program ends, leaves its arguments as launched and every semaphore at zero. -/
theorem kernel_frame : quiescent_KernelIdeal (hKernelIdeal := Cert.KernelIdeal.Gen.facts) := by
  intro m g _
  exact (θ_run (Cert.KernelIdeal.defs (F := Ideal)) _ _).mono (fun r h => ⟨fun c => (h.1 c).2, h.2⟩) (Cert.KernelIdeal.Hand.kernel_run m g)

/-- The reference ends, leaves its arguments as launched and every semaphore at zero. -/
theorem reference_frame : quiescent_ReferenceIdeal (hReferenceIdeal := Cert.ReferenceIdeal.Gen.facts) := by
  intro m g _
  exact (θ_run (Cert.ReferenceIdeal.defs (F := Ideal)) _ _).mono (fun r h => ⟨fun c => (h.1 c).2, h.2⟩) (Cert.ReferenceIdeal.Hand.reference_run m g)

/-- The two launches hold the same head outputs and tables. -/
structure SameArgs (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop where
  head : ∀ b, Cert.ReferenceIdeal.Hand.hd m' c b = Cert.KernelIdeal.Hand.hd m c b
  boxes : ∀ b, Cert.ReferenceIdeal.Hand.bx m' c b = Cert.KernelIdeal.Hand.bx m c b

open Cert.KernelIdeal in
/-- Equal arguments give the same head outputs and selected boxes. -/
theorem same_args (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3)) :
    SameArgs m m' c := by
  have e0 : ∀ b, Cert.ReferenceIdeal.Hand.hd m' c b = Cert.KernelIdeal.Hand.hd m c b := fun b => funext fun a => funext fun ch => congrFun h0 _
  have e1 : Cert.ReferenceIdeal.Hand.gridAt (Cert.ReferenceIdeal.Hand.X0 m' c) = Cert.KernelIdeal.Hand.gridT m c := funext fun a => funext fun k => congrFun h1 _
  have e2 : Cert.ReferenceIdeal.Hand.anchorAt (Cert.ReferenceIdeal.Hand.X0 m' c) = Cert.KernelIdeal.Hand.anchorT m c := funext fun a => funext fun k => congrFun h2 _
  have e3 : Cert.ReferenceIdeal.Hand.strideAt (Cert.ReferenceIdeal.Hand.X0 m' c) = Cert.KernelIdeal.Hand.strideT m c := funext fun a => funext fun k => congrFun h3 _
  refine ⟨e0, fun b => ?_⟩
  show Cert.Nms.cand (Cert.ReferenceIdeal.Hand.hd m' c b) (Cert.ReferenceIdeal.Hand.gridAt (Cert.ReferenceIdeal.Hand.X0 m' c))
    (Cert.ReferenceIdeal.Hand.anchorAt (Cert.ReferenceIdeal.Hand.X0 m' c)) (Cert.ReferenceIdeal.Hand.strideAt (Cert.ReferenceIdeal.Hand.X0 m' c)) = _
  rw [e0, e1, e2, e3]

open Cert.KernelIdeal Cert.KernelIdeal.Gen Cert.KernelIdeal.Hand in
/-- The boxes agree. -/
theorem same_boxes {m m' c} (h : SameArgs m m' c) :
    Cert.ReferenceIdeal.Hand.Y6 m' c (Proc.devRef .tc Cert.ReferenceIdeal.main_v96) = V25 m (outs m) c (Proc.devRef .tc main_v44) := by
  have key : ∀ (b : Fin 16) (s : Fin 300) (k : Fin 4), Cert.ReferenceIdeal.Hand.Y6 m' c (Proc.devRef .tc Cert.ReferenceIdeal.main_v96) (ix3 b s k)
      = V25 m (outs m) c (Proc.devRef .tc main_v44) (ix3 b s k) := fun b s k => by
    refine (Cert.ReferenceIdeal.Hand.result0 m' c b s k).trans (Eq.trans ?_ (result0 m c b s k).symm)
    unfold Cert.ReferenceIdeal.Hand.bst bst
    rw [h.head, h.boxes]
  funext i
  rw [← ix3_eta i]
  exact key _ _ _

open Cert.KernelIdeal Cert.KernelIdeal.Gen Cert.KernelIdeal.Hand in
/-- The scores agree. -/
theorem same_scores {m m' c} (h : SameArgs m m' c) :
    Cert.ReferenceIdeal.Hand.Y6 m' c (Proc.devRef .tc Cert.ReferenceIdeal.main_v97) = V25 m (outs m) c (Proc.devRef .tc main_v45) := by
  have key : ∀ (b : Fin 16) (s : Fin 300), Cert.ReferenceIdeal.Hand.Y6 m' c (Proc.devRef .tc Cert.ReferenceIdeal.main_v97) (ix2 b s)
      = V25 m (outs m) c (Proc.devRef .tc main_v45) (ix2 b s) := fun b s => by
    refine (Cert.ReferenceIdeal.Hand.result1 m' c b s).trans (Eq.trans ?_ (result1 m c b s).symm)
    unfold Cert.ReferenceIdeal.Hand.bst bst
    rw [h.head, h.boxes]
  funext i
  rw [← ix2_eta i]
  exact key _ _

open Cert.KernelIdeal Cert.KernelIdeal.Gen Cert.KernelIdeal.Hand in
/-- The classes agree. -/
theorem same_classes {m m' c} (h : SameArgs m m' c) :
    Cert.ReferenceIdeal.Hand.Y6 m' c (Proc.devRef .tc Cert.ReferenceIdeal.main_v98) = V25 m (outs m) c (Proc.devRef .tc main_v46) := by
  have key : ∀ (b : Fin 16) (s : Fin 300), Cert.ReferenceIdeal.Hand.Y6 m' c (Proc.devRef .tc Cert.ReferenceIdeal.main_v98) (ix2 b s)
      = V25 m (outs m) c (Proc.devRef .tc main_v46) (ix2 b s) := fun b s => by
    refine (Cert.ReferenceIdeal.Hand.result2 m' c b s).trans (Eq.trans ?_ (result2 m c b s).symm)
    unfold Cert.ReferenceIdeal.Hand.bst bst
    rw [h.head, h.boxes]
  funext i
  rw [← ix2_eta i]
  exact key _ _

/-- From equal arguments the kernel program and the reference give the same three results. -/
theorem algebraic : algebraic_KernelIdeal_ReferenceIdeal (hKernelIdeal := Cert.KernelIdeal.Gen.facts) (hReferenceIdeal := Cert.ReferenceIdeal.Gen.facts) := by
  intro m g m' g' _ hm
  have same : ∀ c, SameArgs m m' c := fun c => same_args m m' c (hm c).1 (hm c).2.1 (hm c).2.2.1 (hm c).2.2.2.1
  refine ⟨fun c => Cert.KernelIdeal.Gen.V25 m (Cert.KernelIdeal.Hand.outs m) c (Proc.devRef .tc Cert.KernelIdeal.main_v44),
    fun c => Cert.KernelIdeal.Gen.V25 m (Cert.KernelIdeal.Hand.outs m) c (Proc.devRef .tc Cert.KernelIdeal.main_v45),
    fun c => Cert.KernelIdeal.Gen.V25 m (Cert.KernelIdeal.Hand.outs m) c (Proc.devRef .tc Cert.KernelIdeal.main_v46),
    (θ_run (Cert.KernelIdeal.defs (F := Ideal)) _ _).mono (fun r h c => ?_) (Cert.KernelIdeal.Hand.kernel_run m g),
    (θ_run (Cert.ReferenceIdeal.defs (F := Ideal)) _ _).mono (fun r h c => ?_) (Cert.ReferenceIdeal.Hand.reference_run m' g')⟩
  · obtain ⟨⟨r0, r1, r2⟩, args⟩ := h.1 c
    exact ⟨r0, r1, r2, args⟩
  · obtain ⟨⟨r0, r1, r2⟩, args⟩ := h.1 c
    exact ⟨r0.trans (same_boxes (same c)), r1.trans (same_scores (same c)), r2.trans (same_classes (same c)), args⟩

/-- All that the problem claims. -/
theorem claim : Cert.Claim := ⟨Cert.KernelIdeal.Gen.facts, Cert.ReferenceIdeal.Gen.facts, kernel_frame, reference_frame, algebraic⟩

end Cert.Proof

end
